-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S1024x256 : Shape := ⟨2, ![1024, 256]⟩
abbrev S64 : Shape := ⟨1, ![64]⟩
abbrev S256x256x64 : Shape := ⟨3, ![256, 256, 64]⟩
abbrev S1 : Shape := ⟨1, ![1]⟩
abbrev S_ : Shape := ⟨0, ![]⟩
abbrev S63 : Shape := ⟨1, ![63]⟩

class Facts : Prop where
  slices_S64_S1_63 : S64.Slices ![63] S1
  shapeCasts_S1_S_ : S1.ShapeCasts S_
  slices_S64_S1_0 : S64.Slices ![0] S1
  bcast_S_S64 : S_.BroadcastsInDim S64 (![] : Fin 0 → Fin S64.rank)
  reducesTo_S64_S_d0 : S64.ReducesTo [0] S_
  h_S_ : 0 < S_.numel
  slices_S64_S63_0 : S64.Slices ![0] S63
  slices_S64_S63_1 : S64.Slices ![1] S63
  reducesTo_S63_S_d0 : S63.ReducesTo [0] S_
  bcast_S_S1024x256 : S_.BroadcastsInDim S1024x256 (![] : Fin 0 → Fin S1024x256.rank)
  reducesTo_S1024x256_S_d0_1 : S1024x256.ReducesTo [0, 1] S_
  bcast_S_S256x256x64 : S_.BroadcastsInDim S256x256x64 (![] : Fin 0 → Fin S256x256x64.rank)
  reducesTo_S256x256x64_S_d0_1_2 : S256x256x64.ReducesTo [0, 1, 2] S_

variable [Facts]

def fn_part1 {F : FTy → Type} [FloatOps F] (main_arg0 : FVec F S1024x256 .f32) (main_arg2 : FVec F S256x256x64 .f32) (main_v20 : IVec S_ 1) : IVec S_ 1 :=
  let main_v21 : FVec F S1024x256 .f32 := Host.absf main_arg0
  let main_cst_1 : FVec F S_ .f32 := constant S_ .f32 0x7F800000#32
  let main_v22 : FVec F S1024x256 .f32 := broadcastInDim S1024x256 ![] bcast_S_S1024x256 main_cst_1
  let main_v23 : IVec S1024x256 1 := cmpf .olt main_v21 main_v22
  let main_c_2 : IVec S_ 1 := constantI S_ 1 1#1
  let main_v24 : IVec S_ 1 := (fun x v => Host.reduce IntOp.andi x v reducesTo_S1024x256_S_d0_1 h_S_) main_v23 main_c_2
  let main_v25 : IVec S_ 1 := andi main_v20 main_v24
  let main_v26 : FVec F S256x256x64 .f32 := Host.absf main_arg2
  let main_cst_3 : FVec F S_ .f32 := constant S_ .f32 0x7F800000#32
  let main_v27 : FVec F S256x256x64 .f32 := broadcastInDim S256x256x64 ![] bcast_S_S256x256x64 main_cst_3
  let main_v28 : IVec S256x256x64 1 := cmpf .olt main_v26 main_v27
  let main_c_4 : IVec S_ 1 := constantI S_ 1 1#1
  let main_v29 : IVec S_ 1 := (fun x v => Host.reduce IntOp.andi x v reducesTo_S256x256x64_S_d0_1_2 h_S_) main_v28 main_c_4
  let main_v30 : IVec S_ 1 := andi main_v25 main_v29
  main_v30

def fn {F : FTy → Type} [FloatOps F] (main_arg0 : FVec F S1024x256 .f32) (main_arg1 : FVec F S64 .f32) (main_arg2 : FVec F S256x256x64 .f32) : IVec S_ 1 :=
  let main_v0 : FVec F S1 .f32 := (extractStridedSlice S1 ![63] · slices_S64_S1_63) main_arg1
  let main_v1 : FVec F S_ .f32 := shapeCast S_ main_v0 shapeCasts_S1_S_
  let main_v2 : FVec F S1 .f32 := (extractStridedSlice S1 ![0] · slices_S64_S1_0) main_arg1
  let main_v3 : FVec F S_ .f32 := shapeCast S_ main_v2 shapeCasts_S1_S_
  let main_v4 : FVec F S_ .f32 := subf main_v1 main_v3
  let main_cst : FVec F S_ .f32 := constant S_ .f32 0x427C0000#32
  let main_v5 : FVec F S_ .f32 := Host.divf main_v4 main_cst
  let main_v6 : FVec F S1 .f32 := (extractStridedSlice S1 ![0] · slices_S64_S1_0) main_arg1
  let main_v7 : FVec F S_ .f32 := shapeCast S_ main_v6 shapeCasts_S1_S_
  let main_v8 : IVec S64 32 := iotaInDim S64 32 0
  let main_v9 : FVec F S64 .f32 := sitofp .f32 main_v8
  let main_v10 : FVec F S64 .f32 := broadcastInDim S64 ![] bcast_S_S64 main_v5
  let main_v11 : FVec F S64 .f32 := mulf main_v9 main_v10
  let main_v12 : FVec F S64 .f32 := broadcastInDim S64 ![] bcast_S_S64 main_v7
  let main_v13 : FVec F S64 .f32 := addf main_v12 main_v11
  let main_v14 : IVec S64 1 := cmpf .oeq main_arg1 main_v13
  let main_c : IVec S_ 1 := constantI S_ 1 1#1
  let main_v15 : IVec S_ 1 := (fun x v => Host.reduce IntOp.andi x v reducesTo_S64_S_d0 h_S_) main_v14 main_c
  let main_v16 : FVec F S63 .f32 := (extractStridedSlice S63 ![0] · slices_S64_S63_0) main_arg1
  let main_v17 : FVec F S63 .f32 := (extractStridedSlice S63 ![1] · slices_S64_S63_1) main_arg1
  let main_v18 : IVec S63 1 := cmpf .olt main_v16 main_v17
  let main_c_0 : IVec S_ 1 := constantI S_ 1 1#1
  let main_v19 : IVec S_ 1 := (fun x v => Host.reduce IntOp.andi x v reducesTo_S63_S_d0 h_S_) main_v18 main_c_0
  let main_v20 : IVec S_ 1 := andi main_v15 main_v19
  fn_part1 (F := F) main_arg0 main_arg2 main_v20
-- ==== Kernel.lean ====
abbrev S1024x256 : Shape := ⟨2, ![1024, 256]⟩
abbrev S64 : Shape := ⟨1, ![64]⟩
abbrev S256x256x64 : Shape := ⟨3, ![256, 256, 64]⟩
abbrev S1 : Shape := ⟨1, ![1]⟩
abbrev S_ : Shape := ⟨0, ![]⟩
abbrev S2 : Shape := ⟨1, ![2]⟩
abbrev S1x2 : Shape := ⟨2, ![1, 2]⟩
abbrev S64x256x256 : Shape := ⟨3, ![64, 256, 256]⟩
abbrev S32x256x256 : Shape := ⟨3, ![32, 256, 256]⟩
abbrev S1x1 : Shape := ⟨2, ![1, 1]⟩
abbrev S1024x8192 : Shape := ⟨2, ![1024, 8192]⟩
abbrev S8192x256 : Shape := ⟨2, ![8192, 256]⟩
abbrev S256 : Shape := ⟨1, ![256]⟩
abbrev S1x256 : Shape := ⟨2, ![1, 256]⟩
abbrev S1x256x256 : Shape := ⟨3, ![1, 256, 256]⟩
abbrev S256x256 : Shape := ⟨2, ![256, 256]⟩

abbrev nBuf : Space → Nat
  | .hbm => 20
  | .vmem => 4
  | .smem => 1
  | _ => 0

abbrev bufTy : (tb : Table) → Fin (tcTables nBuf tb) → BufTy
  | .hbm, ⟨0, _⟩ => ⟨S1024x256, .f32⟩
  | .hbm, ⟨1, _⟩ => ⟨S64, .f32⟩
  | .hbm, ⟨2, _⟩ => ⟨S256x256x64, .f32⟩
  | .hbm, ⟨3, _⟩ => ⟨S1, .f32⟩
  | .hbm, ⟨4, _⟩ => ⟨S_, .f32⟩
  | .hbm, ⟨5, _⟩ => ⟨S1, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S2, .f32⟩
  | .hbm, ⟨15, _⟩ => ⟨S1x2, .f32⟩
  | .hbm, ⟨16, _⟩ => ⟨S64x256x256, .f32⟩
  | .hbm, ⟨17, _⟩ => ⟨S64x256x256, .f32⟩
  | .hbm, ⟨18, _⟩ => ⟨S64x256x256, .bf16⟩
  | .hbm, ⟨19, _⟩ => ⟨S1024x256, .f32⟩
  | .local _ .vmem, ⟨0, _⟩ => ⟨S1024x256, .f32⟩
  | .local _ .vmem, ⟨1, _⟩ => ⟨S32x256x256, .bf16⟩
  | .local _ .vmem, ⟨2, _⟩ => ⟨S32x256x256, .bf16⟩
  | .local _ .vmem, ⟨3, _⟩ => ⟨S1024x256, .f32⟩
  | .local _ .smem, ⟨0, _⟩ => ⟨S1x2, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_cst : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_v13 : Ref sig .tc := ⟨.hbm, 17, rfl⟩
abbrev main_call0_v14 : Ref sig .tc := ⟨.hbm, 18, rfl⟩
abbrev main_v0 : Ref sig .tc := ⟨.hbm, 19, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v283 : BitVec 1 := Scalar.cmpi .eq arg0 c0_i32
  let v284 : BitVec 32 := Scalar.extui v283
  let c0_i32_110 : BitVec 32 := 0#32
  let v285 : BitVec 1 := Scalar.cmpi .ne v284 c0_i32_110
  v285

def k0_cond2 (i : grid0.Coords) : BitVec 1 :=
  let arg0 : BitVec 32 := BitVec.ofNat 32 (i 0).val
  let c0_i32_111 : BitVec 32 := 0#32
  let v286 : BitVec 1 := Scalar.cmpi .sgt arg0 c0_i32_111
  let c1_i32 : BitVec 32 := 1#32
  let v287 : BitVec 1 := Scalar.cmpi .slt arg0 c1_i32
  let v288 : BitVec 1 := Scalar.andi v286 v287
  let v289 : BitVec 32 := Scalar.extui v288
  let c0_i32_112 : BitVec 32 := 0#32
  let v290 : BitVec 1 := Scalar.cmpi .ne v289 c0_i32_112
  v290

def k0_cond3 (i : grid0.Coords) : BitVec 1 :=
  let arg0 : BitVec 32 := BitVec.ofNat 32 (i 0).val
  let c1_i32_113 : BitVec 32 := 1#32
  let v291 : BitVec 1 := Scalar.cmpi .eq arg0 c1_i32_113
  let v292 : BitVec 32 := Scalar.extui v291
  let c0_i32_114 : BitVec 32 := 0#32
  let v293 : BitVec 1 := Scalar.cmpi .ne v292 c0_i32_114
  v293

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1024x256 : Shape := ⟨2, ![1024, 256]⟩
abbrev S64 : Shape := ⟨1, ![64]⟩
abbrev S256x256x64 : Shape := ⟨3, ![256, 256, 64]⟩
abbrev S1x1x64 : Shape := ⟨3, ![1, 1, 64]⟩
abbrev S1024x256x1 : Shape := ⟨3, ![1024, 256, 1]⟩
abbrev S1024x256x64 : Shape := ⟨3, ![1024, 256, 64]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S64, .f32⟩
  | .hbm, ⟨2, _⟩ => ⟨S256x256x64, .f32⟩
  | .hbm, ⟨3, _⟩ => ⟨S1x1x64, .f32⟩
  | .hbm, ⟨4, _⟩ => ⟨S1024x256x1, .f32⟩
  | .hbm, ⟨5, _⟩ => ⟨S1024x256x64, .f32⟩
  | .hbm, ⟨6, _⟩ => ⟨S1024x256x64, .f32⟩
  | .hbm, ⟨7, _⟩ => ⟨S1024x256x64, .i1⟩
  | .hbm, ⟨8, _⟩ => ⟨S1024x256x64, .i32⟩
  | .hbm, ⟨9, _⟩ => ⟨S_, .i32⟩
  | .hbm, ⟨10, _⟩ => ⟨S1024x256, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1024x256, .i32⟩
  | .hbm, ⟨15, _⟩ => ⟨S1024x256, .i32⟩
  | .hbm, ⟨16, _⟩ => ⟨S_, .i32⟩
  | .hbm, ⟨17, _⟩ => ⟨S1024x256, .i32⟩
  | .hbm, ⟨18, _⟩ => ⟨S1024x256, .i32⟩
  | .hbm, ⟨19, _⟩ => ⟨S_, .i32⟩
  | .hbm, ⟨20, _⟩ => ⟨S1024x256, .i32⟩
  | .hbm, ⟨21, _⟩ => ⟨S1024x256, .i32⟩
  | .hbm, ⟨22, _⟩ => ⟨S_, .i32⟩
  | .hbm, ⟨23, _⟩ => ⟨S1024x256, .i32⟩
  | .hbm, ⟨24, _⟩ => ⟨S1024x256, .i1⟩
  | .hbm, ⟨25, _⟩ => ⟨S_, .i32⟩
  | .hbm, ⟨26, _⟩ => ⟨S1024x256, .i32⟩
  | .hbm, ⟨27, _⟩ => ⟨S1024x256, .i32⟩
  | .hbm, ⟨28, _⟩ => ⟨S1024x256, .i32⟩
  | .hbm, ⟨29, _⟩ => ⟨S1024x256x1, .i32⟩
  | .hbm, ⟨30, _⟩ => ⟨S1024x256, .f32⟩
  | .hbm, ⟨31, _⟩ => ⟨S_, .i32⟩
  | .hbm, ⟨32, _⟩ => ⟨S1024x256, .i32⟩
  | .hbm, ⟨33, _⟩ => ⟨S1024x256, .i1⟩
  | .hbm, ⟨34, _⟩ => ⟨S_, .i32⟩
  | .hbm, ⟨35, _⟩ => ⟨S1024x256, .i32⟩
  | .hbm, ⟨36, _⟩ => ⟨S1024x256, .i32⟩
  | .hbm, ⟨37, _⟩ => ⟨S1024x256, .i32⟩
  | .hbm, ⟨38, _⟩ => ⟨S1024x256x1, .i32⟩
  | .hbm, ⟨39, _⟩ => ⟨S1024x256, .f32⟩
  | .hbm, ⟨40, _⟩ => ⟨S1024x256, .f32⟩
  | .hbm, ⟨41, _⟩ => ⟨S1024x256, .f32⟩
  | .hbm, ⟨42, _⟩ => ⟨S1024x256, .f32⟩
  | .hbm, ⟨43, _⟩ => ⟨S_, .i32⟩
  | .hbm, ⟨44, _⟩ => ⟨S1024x256, .i32⟩
  | .hbm, ⟨45, _⟩ => ⟨S1024x256, .i32⟩
  | .hbm, ⟨46, _⟩ => ⟨S1024x256x1, .i32⟩
  | .hbm, ⟨47, _⟩ => ⟨S1x1x64, .i32⟩
  | .hbm, ⟨48, _⟩ => ⟨S1024x256x64, .i32⟩
  | .hbm, ⟨49, _⟩ => ⟨S1024x256x64, .i32⟩
  | .hbm, ⟨50, _⟩ => ⟨S1024x256x64, .i1⟩
  | .hbm, ⟨51, _⟩ => ⟨S1024x256x64, .f32⟩
  | .hbm, ⟨52, _⟩ => ⟨S1024x256x1, .i32⟩
  | .hbm, ⟨53, _⟩ => ⟨S1x1x64, .i32⟩
  | .hbm, ⟨54, _⟩ => ⟨S1024x256x64, .i32⟩
  | .hbm, ⟨55, _⟩ => ⟨S1024x256x64, .i32⟩
  | .hbm, ⟨56, _⟩ => ⟨S1024x256x64, .i1⟩
  | .hbm, ⟨57, _⟩ => ⟨S1024x256x64, .f32⟩
  | .hbm, ⟨58, _⟩ => ⟨S_, .f32⟩
  | .hbm, ⟨59, _⟩ => ⟨S1024x256, .f32⟩
  | .hbm, ⟨60, _⟩ => ⟨S1024x256, .f32⟩
  | .hbm, ⟨61, _⟩ => ⟨S1024x256x1, .f32⟩
  | .hbm, ⟨62, _⟩ => ⟨S1024x256x64, .f32⟩
  | .hbm, ⟨63, _⟩ => ⟨S1024x256x64, .f32⟩
  | .hbm, ⟨64, _⟩ => ⟨S1024x256x1, .f32⟩
  | .hbm, ⟨65, _⟩ => ⟨S1024x256x64, .f32⟩
  | .hbm, ⟨66, _⟩ => ⟨S1024x256x64, .f32⟩
  | .hbm, ⟨67, _⟩ => ⟨S1024x256x64, .f32⟩
  | .hbm, ⟨68, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_c_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v29 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v30 : Ref sig .tc := ⟨.hbm, 57, rfl⟩
abbrev main_cst : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩

abbrev nD : Nat := 1
abbrev τ : Topo := Topo.v7x

variable {F : FTy → Type} [FloatOps F]
-- ==== Proof.KernelHats.lean ====
/- The kernel's wide matrix: thirty-two pieces side by side, piece `j` holding, for every input, its distance to the
   knot `base + j`, kept within `0 … 1`. -/
module

public import proofs.«01_k».proof.Proof.Gen.KernelIdeal.Value
public import Idealize.ShloMosaic.Lib.ValueIdx
public import Idealize.ShloMosaic.Lib.Pipeline.Value
public import Idealize.ShloMosaic.PureOps.Ideal.Laws

@[expose] public section

noncomputable section

open scoped BigOperators

namespace Cert.KernelHats

open Cert.KernelIdeal Cert.KernelIdeal.Gen
open Idealize.ShloMosaic Idealize.ShloMosaic.ValueIdx

variable {F : FTy → Type} [FloatOps F]

/-- The even numbers `0, 2, …, 30` as the single-precision words the kernel spells them with. -/
def evenWord : Fin 16 → BitVec 32 :=
  ![0x00000000#32, 0x40000000#32, 0x40800000#32, 0x40C00000#32, 0x41000000#32, 0x41200000#32, 0x41400000#32,
    0x41600000#32, 0x41800000#32, 0x41900000#32, 0x41A00000#32, 0x41B00000#32, 0x41C00000#32, 0x41D00000#32,
    0x41E00000#32, 0x41F00000#32]

/-- The difference of each input (in grid units) to the even knot number `base + 2 q`. -/
def evenDiff (u : FVec F S1024x256 .f32) (base : F .f32) (q : Fin 16) : FVec F S1024x256 .bf16 :=
  truncf .bf16 (subf u (broadcast S1024x256 (Scalar.addf base (Scalar.ofBits .f32 (evenWord q))))) bitsLt_bf16_f32

/-- The difference to the knot number `base + j`: an odd one is taken from the even one before it, less one. -/
def diff (u : FVec F S1024x256 .f32) (base : F .f32) (j : Fin 32) : FVec F S1024x256 .bf16 :=
  if j.val % 2 = 0 then evenDiff u base ⟨j.val / 2, by omega⟩
  else subf (evenDiff u base ⟨j.val / 2, by omega⟩) (broadcast S1024x256 (Scalar.ofBits .bf16 0x3F80#16))

/-- Piece `j`: the absolute difference kept within `0 … 1`. -/
def hat (u : FVec F S1024x256 .f32) (base : F .f32) (j : Fin 32) : FVec F S1024x256 .bf16 :=
  minimumf (broadcast S1024x256 (Scalar.ofBits .bf16 0x3F80#16))
    (maximumf (broadcast S1024x256 (Scalar.ofBits .bf16 0x0000#16)) (absf (diff u base j)))

/-- The pieces as a list of arrays with their shapes. -/
def pieces (u : FVec F S1024x256 .f32) (base : F .f32) : List ((s : Shape) × (s.Idx → F .bf16)) :=
  List.ofFn fun j : Fin 32 => ⟨S1024x256, hat u base j⟩

theorem pieces_concatenate (u : FVec F S1024x256 .f32) (base : F .f32) :
    Shape.Concatenates ((pieces u base).map (·.1)) S1024x8192 1 := by
  have e : (pieces u base).map (·.1) = List.replicate 32 S1024x256 := by
    unfold pieces
    rw [List.map_ofFn]
    exact List.ofFn_const 32 S1024x256
  rw [e]
  decide

/-- The pieces side by side. -/
def wide (u : FVec F S1024x256 .f32) (base : F .f32) : FVec F S1024x8192 .bf16 :=
  concatenate S1024x8192 1 (pieces u base) (pieces_concatenate u base)

/-- The matrix the kernel builds at a grid point is that one. -/
theorem wide_eq (i : grid0.Coords) (v0 v1 : Elt F .f32) (x : Vec F S1024x256 .f32) :
    k0_pay60 (k0_pay6 i v0 v1 x) (k0_pay7 i v0 v1 x) (k0_pay10 i v0 v1 x) (k0_pay11 (k0_pay9 i v0 v1 x))
      (k0_pay13 (k0_pay3 v0 v1 x) (k0_pay4 i)) (k0_pay14 (k0_pay3 v0 v1 x) (k0_pay4 i))
      (k0_pay16 (k0_pay3 v0 v1 x) (k0_pay4 i)) (k0_pay17 (k0_pay3 v0 v1 x) (k0_pay4 i))
      (k0_pay21 (k0_pay20 (k0_pay3 v0 v1 x) (k0_pay4 i))) (k0_pay22 (k0_pay19 (k0_pay3 v0 v1 x) (k0_pay4 i)))
      (k0_pay24 (k0_pay3 v0 v1 x) (k0_pay4 i)) (k0_pay25 (k0_pay3 v0 v1 x) (k0_pay4 i))
      (k0_pay27 (k0_pay3 v0 v1 x) (k0_pay4 i)) (k0_pay28 (k0_pay3 v0 v1 x) (k0_pay4 i))
      (k0_pay31 (k0_pay3 v0 v1 x) (k0_pay29 (k0_pay4 i))) (k0_pay32 (k0_pay3 v0 v1 x) (k0_pay29 (k0_pay4 i)))
      (k0_pay34 (k0_pay3 v0 v1 x) (k0_pay4 i)) (k0_pay35 (k0_pay3 v0 v1 x) (k0_pay4 i))
      (k0_pay37 (k0_pay3 v0 v1 x) (k0_pay4 i))
      (k0_pay40 (k0_pay38 (k0_pay3 v0 v1 x) (k0_pay4 i)) (FloatOps.ofBits FTy.bf16 0x3F80#16) k0_pay39)
      (k0_pay42 (k0_pay3 v0 v1 x) (k0_pay4 i)) (k0_pay43 (k0_pay3 v0 v1 x) (k0_pay4 i))
      (k0_pay45 (k0_pay3 v0 v1 x) (k0_pay4 i)) (k0_pay46 (k0_pay3 v0 v1 x) (k0_pay4 i))
      (k0_pay50 (FloatOps.ofBits FTy.bf16 0x3F80#16) (k0_pay49 (k0_pay3 v0 v1 x) (k0_pay4 i)))
      (k0_pay51 (k0_pay48 (k0_pay3 v0 v1 x) (k0_pay4 i)))
      (k0_pay53 (k0_pay3 v0 v1 x) (k0_pay4 i)) (k0_pay54 (k0_pay3 v0 v1 x) (k0_pay4 i))
      (k0_pay56 (k0_pay3 v0 v1 x) (k0_pay4 i)) (k0_pay57 (k0_pay3 v0 v1 x) (k0_pay4 i))
      (k0_pay58 (k0_pay3 v0 v1 x) (k0_pay4 i)) (subf (k0_pay58 (k0_pay3 v0 v1 x) (k0_pay4 i)) k0_pay59)
      = wide (k0_pay3 v0 v1 x) (k0_pay4 i) := by
  unfold k0_pay60 wide
  dsimp only
  refine StableHlo.concatenate_congr _ _ ?_ _ _
  refine List.ext_getElem (by simp [pieces]) fun n hn hn' => ?_
  refine Eq.trans ?_ (List.getElem_ofFn hn').symm
  have hlt : n < 32 := hn
  refine Eq.trans ?_ (congrArg (fun j : Fin 32 => (⟨S1024x256, hat (k0_pay3 v0 v1 x) (k0_pay4 i) j⟩ :
    (s : Shape) × (s.Idx → F .bf16))) (Fin.ext (Nat.mod_eq_of_lt hlt) : Fin.ofNat 32 n = ⟨n, hlt⟩))
  clear hn'
  revert hn
  interval_cases n <;> intro _ <;> rfl

/-- Column `256 j + i` of the wide matrix is column `i` of piece `j`. -/
theorem wide_apply (u : FVec F S1024x256 .f32) (base : F .f32) (b : Fin 1024) (j : Fin 32) (i : Fin 256) (q : Fin 8192)
    (hq : q.val = i.val + 256 * j.val) : wide u base (ix2 b q) = hat u base j (ix2 b i) := by
  have hi := i.isLt
  unfold wide pieces
  refine concatenate_ofFn_apply (s₁ := S1024x256) (t := S1024x8192) 1 (fun j => hat u base j) _ rfl 256 rfl (ix2 b q) j ?_ (ix2 b i) ?_ ?_
  · show q.val / 256 = j.val
    omega
  · show i.val = q.val % 256
    omega
  · intro a ha
    match a, ha with
    | ⟨0, _⟩, _ => rfl
    | ⟨1, _⟩, ha => exact absurd rfl ha

end Cert.KernelHats
end
-- ==== Proof.KernelBlock.lean ====
/- One grid point's contribution to the kernel's result, read at an index: a wide product against the block of negated
   values, the block's column sums, and the correction outside the grid at its first or last point. -/
module

public import proofs.«01_k».proof.Proof.KernelHats
public import Idealize.ShloMosaic.Lib.ValueLayout
public import Idealize.ShloMosaic.Lib.MatmulPlain

@[expose] public section

noncomputable section

open scoped BigOperators

namespace Cert.KernelBlock

open Cert.KernelIdeal Cert.KernelIdeal.Gen Cert.KernelIdeal.Value Cert.KernelHats
open Idealize.ShloMosaic Idealize.ShloMosaic.ValueIdx Idealize.ShloMosaic.TcCoe Idealize.SL.Sem
open Idealize.ShloMosaic.Tactic

/-! ## What the body leaves in the output buffer -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block of negated values. -/
abbrev Block := Vec Ideal S32x256x256 .bf16

/-- The first scalar parameter: the first knot. -/
def origin (p : Vec Ideal S1x2 .f32) : EReal :=
  View.ld p (Rect.unit (s := S1x2) ![0, 0] S1x1.size inb_S1x2_S1x1_0_0)
    (Shape.Idx.first (s := S1x1) (numel1_S1x1.symm ▸ Nat.one_pos))
/-- The second scalar parameter: the number of knots to a unit of length. -/
def scale (p : Vec Ideal S1x2 .f32) : EReal :=
  View.ld p (Rect.unit (s := S1x2) ![0, 1] S1x1.size inb_S1x2_S1x1_0_1)
    (Shape.Idx.first (s := S1x1) (numel1_S1x1.symm ▸ Nat.one_pos))

/-- Plane `k` of the block. -/
def plane (k : Nat) (y : Block) (inb : ∀ a, (![k, 0, 0] : Fin 3 → Nat) a + S1x256x256.size a ≤ S32x256x256.size a) :
    Vec Ideal S1x256x256 .bf16 := View.ld y (Rect.unit (s := S32x256x256) ![k, 0, 0] S1x256x256.size inb)

theorem origin_eq (p : Vec Ideal S1x2 .f32) : origin p = p (ix2 0 0) :=
  congrArg p (by funext a; match a with | ⟨0, _⟩ => rfl | ⟨1, _⟩ => rfl)

theorem scale_eq (p : Vec Ideal S1x2 .f32) : scale p = p (ix2 0 1) :=
  congrArg p (by funext a; match a with | ⟨0, _⟩ => rfl | ⟨1, _⟩ => rfl)

/-- What the first grid point stores. -/
theorem first_eq (c : Dev nD) (i : grid0.Coords)
    (arg1 : Memref sig .tc .smem S1x2 .f32) (harg1 : arg1.IsWhole)
    (arg2 : Memref sig .tc .vmem S1024x256 .f32) (harg2 : arg2.IsWhole)
    (arg3 : Memref sig .tc .vmem S32x256x256 .bf16) (harg3 : arg3.IsWhole)
    (arg4 : Memref sig .tc .vmem S1024x256 .f32) (harg4 : arg4.IsWhole)
    (hc0 : cond0_0 i) (hc1 : ¬cond0_1 i) (hc2 : ¬cond0_2 i)
    (p : Vec Ideal S1x2 .f32) (x : Vec Ideal S1024x256 .f32) (y : Block) :
    out0_A_3 c i arg1 harg1 arg2 harg2 arg3 harg3 arg4 harg4 hc0 hc1 hc2 p x y
      = k0_pay62 (k0_pay2 (F := Ideal) (origin p) (scale p) x)
          (k0_pay61 (wide (k0_pay3 (origin p) (scale p) x) (k0_pay4 i)) y y)
          (plane 0 y inb_S32x256x256_S1x256x256_0_0_0) (plane 1 y inb_S32x256x256_S1x256x256_1_0_0) := by
  unfold out0_A_3
  rw [View.read_writes_eq_canon _ _ _ (cover0_A_3 c i arg1 harg1 arg2 harg2 arg3 harg3 arg4 harg4 hc0 hc1 hc2 p x y)]
  unfold kernelRun0_A
  dsimp only
  sl_unfold_words
  simp only [View.readAt_eq_ld, harg1.read_unread, harg2.read_unread, harg3.read_unread,
    View.ld_unit_zero (S := S1024x256) zeros2, View.ld_unit_zero (S := S32x256x256) zeros3]
  rw [View.canon_unit_zero (S := S1024x256) zeros2]
  rw [← wide_eq i (origin p) (scale p) x]
  unfold origin scale plane
  rfl

/-- What the last grid point stores, from what the buffer held. -/
theorem last_eq (c : Dev nD) (i : grid0.Coords)
    (arg1 : Memref sig .tc .smem S1x2 .f32) (harg1 : arg1.IsWhole)
    (arg2 : Memref sig .tc .vmem S1024x256 .f32) (harg2 : arg2.IsWhole)
    (arg3 : Memref sig .tc .vmem S32x256x256 .bf16) (harg3 : arg3.IsWhole)
    (arg4 : Memref sig .tc .vmem S1024x256 .f32) (harg4 : arg4.IsWhole)
    (hc0 : ¬cond0_0 i) (hc1 : ¬cond0_1 i) (hc2 : cond0_2 i)
    (p : Vec Ideal S1x2 .f32) (x : Vec Ideal S1024x256 .f32) (y : Block) (old : Vec Ideal S1024x256 .f32) :
    out0_B_3 c i arg1 harg1 arg2 harg2 arg3 harg3 arg4 harg4 hc0 hc1 hc2 p x y old
      = k0_pay1 (k0_pay2 (F := Ideal) (origin p) (scale p) x)
          (k0_pay61 (wide (k0_pay3 (origin p) (scale p) x) (k0_pay4 i)) y y)
          (plane 30 y inb_S32x256x256_S1x256x256_30_0_0) (plane 31 y inb_S32x256x256_S1x256x256_31_0_0) old := by
  unfold out0_B_3
  rw [View.read_writes_eq_canon _ _ _ (cover0_B_3 c i arg1 harg1 arg2 harg2 arg3 harg3 arg4 harg4 hc0 hc1 hc2 p x y old)]
  unfold kernelRun0_B
  dsimp only
  sl_unfold_words
  simp only [View.readAt_eq_ld, harg1.read_unread, harg2.read_unread, harg3.read_unread, harg4.read_unread,
    View.ld_unit_zero (S := S1024x256) zeros2, View.ld_unit_zero (S := S32x256x256) zeros3]
  rw [View.canon_unit_zero (S := S1024x256) zeros2]
  rw [← wide_eq i (origin p) (scale p) x]
  unfold origin scale plane
  rfl

/-! ## Those payloads read at an index -/

/-- Row `256 j + i` of the flattened block. -/
def rowAt (j : Fin 32) (i : Fin 256) : Fin 8192 := finProdFinEquiv (j, i)

theorem rowAt_val (j : Fin 32) (i : Fin 256) : (rowAt j i).val = i.val + 256 * j.val := rfl

/-- A sum over the flattened rows, plane by plane. -/
theorem sum_rows (f : Fin 8192 → EReal) : ∑ q, f q = ∑ j : Fin 32, ∑ i : Fin 256, f (rowAt j i) := by
  rw [← Fintype.sum_prod_type']
  exact (Equiv.sum_comp (finProdFinEquiv (m := 32) (n := 256)) f).symm

/-- The flattened block at such a row. -/
theorem flat_apply (y : Block) (j : Fin 32) (i n : Fin 256) :
    shapeCast S8192x256 (shapeCast S32x256x256 y shapeCasts_S32x256x256_S32x256x256) shapeCasts_S32x256x256_S8192x256
      (ix2 (rowAt j i) n) = y (ix3 j i n) := by
  rw [shapeCast_self]
  refine shapeCast_apply y _ _ _ ?_
  rw [Shape.rowMajor_val_three, Shape.rowMajor_val_two]
  show (j.val * 256 + i.val) * 256 + n.val = (rowAt j i).val * 256 + n.val
  rw [rowAt_val]
  ring

/-- The column sums of the block. -/
theorem total_apply (y : FVec Ideal S32x256x256 .f32) (n : Fin 256) :
    multiReduction .add [0, 1] S256 y 0x00000000#32 reduces_S32x256x256_S256 (.inl rfl) rfl (ix1 n)
      = ∑ j : Fin 32, ∑ i : Fin 256, y (ix3 j i n) := by
  show ∑ q ∈ Finset.univ.filter (fun q : S32x256x256.Idx => reduces_S32x256x256_S256.drop q = ix1 n), y q = _
  have hdrop : ∀ q : S32x256x256.Idx, reduces_S32x256x256_S256.drop q = ix1 n ↔ q 2 = n := by
    intro q
    have h0 : ((reduces_S32x256x256_S256.drop q) 0 : ℕ) = q 2 :=
      Shape.Reduces.drop_apply_val reduces_S32x256x256_S256 q 0
    constructor
    · intro e; rw [e] at h0; exact Fin.ext h0.symm
    · intro e
      funext a
      match a with
      | ⟨0, _⟩ => exact Fin.ext (h0.trans (congrArg Fin.val e))
  have hback : ∀ q : S32x256x256.Idx, q 2 = n → ix3 (q 0) (q 1) n = q := fun q h => by
    funext a
    match a with
    | ⟨0, _⟩ => rfl
    | ⟨1, _⟩ => rfl
    | ⟨2, _⟩ => exact h.symm
  rw [← Fintype.sum_prod_type']
  refine Finset.sum_bij' (fun q _ => ((q 0 : Fin 32), (q 1 : Fin 256))) (fun r _ => ix3 r.1 r.2 n)
    (fun _ _ => Finset.mem_univ _) (fun r _ => Finset.mem_filter.2 ⟨Finset.mem_univ _, (hdrop _).2 rfl⟩)
    (fun q hq => hback q ((hdrop q).1 (Finset.mem_filter.1 hq).2)) (fun _ _ => rfl) ?_
  intro q hq
  exact congrArg y (hback q ((hdrop q).1 (Finset.mem_filter.1 hq).2)).symm

/-- The part every grid point adds: the wide product, less the column sums. -/
theorem body_apply (w : FVec Ideal S1024x8192 .bf16) (y : Block) (b : Fin 1024) (n : Fin 256) :
    k0_pay61 w y y (ix2 b n)
      = (∑ j : Fin 32, ∑ i : Fin 256, w (ix2 b (rowAt j i)) * y (ix3 j i n))
        + (0 - ∑ j : Fin 32, ∑ i : Fin 256, y (ix3 j i n)) := by
  unfold k0_pay61
  dsimp only
  refine congrArg₂ (fun p q : EReal => p + q) ?_ ?_
  · refine (Ideal.matmul_plain_apply none w _ _ b n).trans ?_
    rw [sum_rows]
    refine (congrArg (· + _) Ideal.ofBits_zero_f32).trans ((zero_add _).trans ?_)
    exact Finset.sum_congr rfl fun j _ => Finset.sum_congr rfl fun i _ => congrArg (_ * ·) (flat_apply y j i n)
  · refine (broadcastTo_apply _ _ (ix2 b n) (ix2 0 n) ?_).trans ?_
    · intro a
      match a with
      | ⟨0, _⟩ => rfl
      | ⟨1, _⟩ => rfl
    · refine (shapeCast_a_1a_apply _ _ 0 n).trans ?_
      refine congrArg₂ (fun p q : EReal => p - q) Ideal.ofBits_zero_f32 ?_
      refine (total_apply _ n).trans ?_
      rw [shapeCast_self]
      rfl

/-- Plane `k` of the block, its leading unit axis dropped, read at an index. -/
theorem plane_apply (k : Fin 32) (y : Block) (inb) (i n : Fin 256) :
    shapeCast S256x256 (plane k.val y inb) shapeCasts_S1x256x256_S256x256 (ix2 i n) = y (ix3 k i n) := by
  refine (shapeCast_1ab_ab_apply _ _ i n).trans ?_
  refine congrArg y (funext fun a => Fin.ext ?_)
  match a with
  | ⟨0, _⟩ => exact (by simp : k.val + 1 * 0 = k.val)
  | ⟨1, _⟩ => exact (by simp : 0 + 1 * i.val = i.val)
  | ⟨2, _⟩ => exact (by simp : 0 + 1 * n.val = n.val)

/-- The correction below the grid, at the first point. -/
theorem below_apply (u s : FVec Ideal S1024x256 .f32) (y : Block) (k k' : Fin 32) (inb inb') (b : Fin 1024) (n : Fin 256) :
    k0_pay62 u s (plane k.val y inb) (plane k'.val y inb') (ix2 b n)
      = s (ix2 b n) + ∑ i : Fin 256, min (u (ix2 b i)) 0 * (y (ix3 k i n) - y (ix3 k' i n)) := by
  unfold k0_pay62
  refine congrArg (s (ix2 b n) + ·) ?_
  refine (Ideal.matmul_plain_apply none _ _ _ b n).trans ?_
  refine (congrArg (· + _) Ideal.ofBits_zero_f32).trans ((zero_add _).trans ?_)
  refine Finset.sum_congr rfl fun i _ => ?_
  refine congrArg₂ (fun p q : EReal => p * q) ?_ ?_
  · exact congrArg (min (u (ix2 b i))) Ideal.ofBits_zero_f32
  · exact congrArg₂ (fun p q : EReal => p - q) (plane_apply k y inb i n) (plane_apply k' y inb' i n)

/-- The word of `63`. -/
theorem ofBits_63 : Ideal.ofBits .f32 0x427C0000#32 = ((63 : ℝ) : EReal) := by
  simp [Ideal.ofBits, Ideal.ieee, -EReal.coe_mul]
  norm_num

/-- The correction above the grid, at the last point, added with the rest to what the buffer held. -/
theorem above_apply (u s : FVec Ideal S1024x256 .f32) (y : Block) (k k' : Fin 32) (inb inb') (old : Vec Ideal S1024x256 .f32)
    (b : Fin 1024) (n : Fin 256) :
    k0_pay1 u s (plane k.val y inb) (plane k'.val y inb') old (ix2 b n)
      = old (ix2 b n) + (s (ix2 b n)
        + ∑ i : Fin 256, max (u (ix2 b i) - ((63 : ℝ) : EReal)) 0 * (y (ix3 k i n) - y (ix3 k' i n))) := by
  unfold k0_pay1
  refine congrArg₂ (fun p q : EReal => p + q) (by rw [shapeCast_self]) ?_
  refine congrArg (s (ix2 b n) + ·) ?_
  refine (Ideal.matmul_plain_apply none _ _ _ b n).trans ?_
  refine (congrArg (· + _) Ideal.ofBits_zero_f32).trans ((zero_add _).trans ?_)
  refine Finset.sum_congr rfl fun i _ => ?_
  refine congrArg₂ (fun p q : EReal => p * q) ?_ ?_
  · exact congrArg₂ (fun p q : EReal => max (u (ix2 b i) - p) q) ofBits_63 Ideal.ofBits_zero_f32
  · exact congrArg₂ (fun p q : EReal => p - q) (plane_apply k y inb i n) (plane_apply k' y inb' i n)

end Cert.KernelBlock
end
-- ==== Proof.KernelArrays.lean ====
/- The arrays the kernel's grid reads, as prepared on the host: the two scalar parameters, and the negated values with the
   knot's axis in front; and the blocks of them each grid point sees. -/
module

public import proofs.«01_k».proof.Proof.KernelBlock

@[expose] public section

noncomputable section

open scoped BigOperators

namespace Cert.KernelArrays

open Cert.KernelIdeal Cert.KernelIdeal.Gen Cert.KernelIdeal.Value Cert.KernelBlock
open Idealize.ShloMosaic Idealize.ShloMosaic.ValueIdx Idealize.ShloMosaic.TcCoe Idealize.SL.Sem
open Idealize.ShloMosaic.Tactic

variable (m : (ℓ : Loc nD τ sig) → Buf (Elt Ideal) ℓ)

/-- The inputs as launched. -/
abbrev inputs (c : Dev nD) : (⟨S1024x256, .f32⟩ : BufTy).Contents (Elt Ideal) := m ((c : Thread nD τ).loc main_arg0)
/-- The knots as launched. -/
abbrev knots (c : Dev nD) : (⟨S64, .f32⟩ : BufTy).Contents (Elt Ideal) := m ((c : Thread nD τ).loc main_arg1)
/-- The values at the knots as launched. -/
abbrev values (c : Dev nD) : (⟨S256x256x64, .f32⟩ : BufTy).Contents (Elt Ideal) := m ((c : Thread nD τ).loc main_arg2)

/-- One knot as an array without axes. -/
def knotAt (X : Vec Ideal S64 .f32) (k : Nat) (h : S64.Slices ![k] S1) : Vec Ideal S_ .f32 :=
  shapeCast S_ (extractStridedSlice S1 ![k] X h) shapeCasts_S1_S_

/-- The two scalar parameters side by side. -/
def paramPair (X : Vec Ideal S64 .f32) : Vec Ideal S2 .f32 :=
  concatenate S2 0 [⟨S1, broadcastInDim S1 ![] bcast_S_S1 (knotAt X 0 slices_S64_S1_0)⟩,
    ⟨S1, broadcastInDim S1 ![] bcast_S_S1 (Host.divf (F := Ideal) (φ := .f32) (constant S_ .f32 0x427C0000#32)
      (subf (knotAt X 63 slices_S64_S1_63) (knotAt X 0 slices_S64_S1_0)))⟩] concatenates_S1_S1_S2_d0

theorem V_params (c : Dev nD) :
    V m c main_call0_v11 = (shapeCast S1x2 (paramPair (knots m c)) shapeCasts_S2_S1x2 : Vec Ideal S1x2 .f32) := by
  show StableHlo.after hostOps0 _ _ = _
  after_results
  rfl

/-- The values with the knot's axis in front, negated. -/
def negated (Y : Vec Ideal S256x256x64 .f32) : Vec Ideal S64x256x256 .bf16 :=
  truncf (F := Ideal) .bf16 (Host.negf (F := Ideal) (φ := .f32) (transpose S64x256x256 [2, 0, 1] Y
    transposes_S256x256x64_S64x256x256_2_0_1)) bitsLt_bf16_f32

theorem V_values (c : Dev nD) : V m c main_call0_v14 = negated (values m c) := by
  show StableHlo.after hostOps0 _ _ = _
  after_results
  rfl

theorem knotAt_apply (X : Vec Ideal S64 .f32) (k : Fin 64) (h : S64.Slices ![k.val] S1) (i : S_.Idx) :
    knotAt X k.val h i = X (ix1 k) := by
  unfold knotAt
  refine (shapeCast_apply _ _ i (ix1 0) ?_).trans ?_
  · rw [Nat.lt_one_iff.1 (lt_of_lt_of_eq (S1.rowMajor (ix1 0)).isLt (by decide)),
      Nat.lt_one_iff.1 (lt_of_lt_of_eq (S_.rowMajor i).isLt (by decide))]
  · refine extractStridedSlice_apply _ X h (ix1 0) (ix1 k) fun a => ?_
    match a with
    | ⟨0, _⟩ => rfl

/-- The first parameter is the first knot. -/
theorem params_origin (c : Dev nD) :
    (V m c main_call0_v11 : Vec Ideal S1x2 .f32) (ix2 0 0) = knots m c (ix1 0) := by
  rw [V_params]
  refine (shapeCast_a_1a_apply _ _ 0 0).trans ?_
  unfold paramPair
  refine (concatenate_pair_apply_left (s₁ := S1) (s₂ := S1) (t := S2) 0 _ _ _ (ix1 0) rfl (ix1 0) ?_).trans ?_
  · intro b
    match b with
    | ⟨0, _⟩ => rfl
  · exact knotAt_apply (knots m c) 0 slices_S64_S1_0 _

/-- The second parameter is `63` over the span of the knots. -/
theorem params_scale (c : Dev nD) :
    (V m c main_call0_v11 : Vec Ideal S1x2 .f32) (ix2 0 1)
      = Ideal.div ((63 : ℝ) : EReal) (knots m c (ix1 63) - knots m c (ix1 0)) := by
  rw [V_params]
  refine (shapeCast_a_1a_apply _ _ 0 1).trans ?_
  unfold paramPair
  refine (concatenate_pair_apply_right (s₁ := S1) (s₂ := S1) (t := S2) 0 _ _ _ (ix1 1) rfl rfl (ix1 0) ?_ ?_).trans ?_
  · intro b hb
    match b, hb with
    | ⟨0, _⟩, hb => exact absurd rfl hb
  · rfl
  · exact congrArg₂ Ideal.div ofBits_63 (congrArg₂ (fun p q : EReal => p - q)
      (knotAt_apply (knots m c) 63 slices_S64_S1_63 _) (knotAt_apply (knots m c) 0 slices_S64_S1_0 _))

/-- Plane `k` of the prepared values is the negation of the values at knot `k`. -/
theorem values_neg (c : Dev nD) (k : Fin 64) (i n : Fin 256) :
    (V m c main_call0_v14 : Vec Ideal S64x256x256 .bf16) (ix3 k i n) = -(values m c (ix3 i n k)) := by
  rw [V_values]
  refine congrArg (fun e : EReal => -e) (transpose_apply _ _ _ (ix3 k i n) (ix3 i n k) fun a => ?_)
  match a with
  | ⟨0, _⟩ => rfl
  | ⟨1, _⟩ => rfl
  | ⟨2, _⟩ => rfl

/-! ## The blocks the grid points see -/

/-- The parameters are seen whole. -/
theorem block_params (c : Dev nD) (t : Fin cfg0.N) :
    (iblk m c 0 t : Vec Ideal S1x2 .f32) = V m c main_call0_v11 := by
  have hi : win0_0.index t 0 = 0 ∧ win0_0.index t 1 = 0 := by
    rcases fin_N0 t with rfl | rfl <;> decide
  funext j
  unfold iblk
  rw [View.read_apply]
  show V m c main_call0_v11 _ = V m c main_call0_v11 _
  congr 1
  funext a
  apply Fin.ext
  match a with
  | ⟨0, _⟩ => show win0_0.index t 0 * 1 + 1 * (j 0).val = (j 0).val; rw [hi.1]; omega
  | ⟨1, _⟩ => show win0_0.index t 1 * 2 + 1 * (j 1).val = (j 1).val; rw [hi.2]; omega

/-- The inputs are seen whole. -/
theorem block_inputs (c : Dev nD) (t : Fin cfg0.N) :
    (iblk m c 1 t : Vec Ideal S1024x256 .f32) = inputs m c := by
  have hi : win0_1.index t 0 = 0 ∧ win0_1.index t 1 = 0 := by
    rcases fin_N0 t with rfl | rfl <;> decide
  funext j
  unfold iblk
  rw [View.read_apply]
  show V m c main_arg0 _ = m (c.tc.loc main_arg0) _
  rw [V_main_arg0]
  congr 1
  funext a
  apply Fin.ext
  match a with
  | ⟨0, _⟩ => show win0_1.index t 0 * 1024 + 1 * (j 0).val = (j 0).val; rw [hi.1]; omega
  | ⟨1, _⟩ => show win0_1.index t 1 * 256 + 1 * (j 1).val = (j 1).val; rw [hi.2]; omega

/-- Point `t` sees the planes `32 t … 32 t + 31` of the negated values. -/
theorem block_values (c : Dev nD) (t : Fin cfg0.N) (j : Fin 32) (i n : Fin 256) (k : Fin 64) (hk : k.val = 32 * t.val + j.val) :
    (iblk m c 2 t : Block) (ix3 j i n) = -(values m c (ix3 i n k)) := by
  have hi : win0_2.index t 0 = t.val ∧ win0_2.index t 1 = 0 ∧ win0_2.index t 2 = 0 := by
    rcases fin_N0 t with rfl | rfl <;> decide
  refine Eq.trans ?_ (values_neg m c k i n)
  unfold iblk
  rw [View.read_apply]
  show V m c main_call0_v14 _ = V m c main_call0_v14 _
  congr 1
  funext a
  apply Fin.ext
  match a with
  | ⟨0, _⟩ => show win0_2.index t 0 * 32 + 1 * j.val = k.val; rw [hi.1]; omega
  | ⟨1, _⟩ => show win0_2.index t 1 * 256 + 1 * i.val = i.val; rw [hi.2.1]; omega
  | ⟨2, _⟩ => show win0_2.index t 2 * 256 + 1 * n.val = n.val; rw [hi.2.2]; omega

/-! ## The final array -/

/-- What the output buffer holds after the last point. -/
abbrev result (c : Dev nD) : Buf (Elt Ideal) ((c : Thread nD τ).loc main_v0) := outsAt0 m c t0_1.val t0_1.isLt

/-- At the last point the output's block starts at the array's origin. -/
theorem last_start (a : Fin 2) : win0_3.index t0_1 a = 0 := by revert a; decide +kernel

/-- Only the last point writes back, and it writes the result. -/
theorem flushed_result (c : Dev nD) (t : Fin cfg0.N) (hf : (cfg0.win 3).flush t = true) :
    (dats m 0 c).flushed 3 t = ((cfg0.win 3).blk t).view.read (Elt Ideal) (result m c) := by
  have h1 : t = t0_1 := by
    rcases fin_N0 t with h | h
    · subst h; exact absurd ((flush0_3 _).mp hf) (by decide)
    · exact h
  subst h1
  have hz : (fun a => win0_3.index t0_1 a * main_v0.ty.shape.size a) = fun _ => 0 :=
    funext fun a => (congrArg (· * main_v0.ty.shape.size a) (last_start a)).trans (Nat.zero_mul _)
  rw [flushed3]
  exact (Memref.read_access_unit_zero (Elt Ideal) main_v0 hz (fun a => by rw [congrFun hz a]; simp) (result m c)).symm

/-- That block is the whole array. -/
theorem last_covers (i : S1024x256.Idx) : i ∈ ((View.whole main_v0).slice (win0_3.rect t0_1)).set := by
  rw [View.set_slice_whole, Rect.mem_set_unit]
  intro a
  have hlo : win0_3.index t0_1 a * win0_3.size a = 0 := (congrArg (· * _) (last_start a)).trans (Nat.zero_mul _)
  have hsz : win0_3.xsize (grid0.coords t0_1) a = S1024x256.size a := by revert a; decide +kernel
  show win0_3.index t0_1 a * win0_3.size a ≤ (i a).val
    ∧ (i a).val < win0_3.index t0_1 a * win0_3.size a + win0_3.xsize (grid0.coords t0_1) a
  rw [hlo, hsz, Nat.zero_add]
  exact ⟨Nat.zero_le _, (i a).isLt⟩

/-- So the result array ends holding it. -/
theorem final_result (c : Dev nD) : (dats m 0 c).arrAt 3 cfg0.N = result m c :=
  (dats m 0 c).arrAt_eq_of_cover 3 (result m c) (flushed_result m c) fun i =>
    ⟨t0_1, (flush0_3 t0_1).mpr rfl, last_covers i⟩

end Cert.KernelArrays
end
-- ==== Proof.Spline.lean ====
/- Linear interpolation on the grid `0, 1, …, 63`, over the reals: the two-ended form (a segment, a position on it, and its
   two weights) and the form by distances (one less the distance to each knot, kept within `0 … 1`, with a straight-line
   correction outside the grid) give every knot the same weight. -/
module

public import Idealize.ShloMosaic.PureOps.Ideal.Laws

@[expose] public section

noncomputable section

open scoped BigOperators

namespace Cert.Spline

/-- How many of the numbers `0 … 63` lie strictly below `r`. -/
def count (r : ℝ) : ℕ := (Finset.univ.filter fun k : Fin 64 => ((k.val : ℕ) : ℝ) < r).card

/-- A number of the grid below `r` has all before it below `r`. -/
theorem lt_count (r : ℝ) (k : Fin 64) (h : ((k.val : ℕ) : ℝ) < r) : k.val + 1 ≤ count r := by
  have hsub : Finset.Iic k ⊆ Finset.univ.filter fun j : Fin 64 => ((j.val : ℕ) : ℝ) < r := by
    intro j hj
    have hjk : j.val ≤ k.val := Fin.le_def.1 (Finset.mem_Iic.1 hj)
    exact Finset.mem_filter.2 ⟨Finset.mem_univ _, lt_of_le_of_lt (Nat.cast_le.2 hjk) h⟩
  have := Finset.card_le_card hsub
  rwa [Fin.card_Iic] at this

/-- A number of the grid not below `r` has none after it below `r`. -/
theorem count_le (r : ℝ) (k : Fin 64) (h : r ≤ ((k.val : ℕ) : ℝ)) : count r ≤ k.val := by
  have hsub : (Finset.univ.filter fun j : Fin 64 => ((j.val : ℕ) : ℝ) < r) ⊆ Finset.Iio k := by
    intro j hj
    have hjr := (Finset.mem_filter.1 hj).2
    exact Finset.mem_Iio.2 (Fin.lt_def.2 (Nat.cast_lt.1 (lt_of_lt_of_le hjr h)))
  have := Finset.card_le_card hsub
  rwa [Fin.card_Iio] at this

/-- The right end of the segment of `r`. -/
def segment (r : ℝ) : ℕ := min 63 (max 1 (count r))

theorem one_le_segment (r : ℝ) : 1 ≤ segment r := by unfold segment; omega

theorem segment_le (r : ℝ) : segment r ≤ 63 := by unfold segment; omega

/-- Past the first segment, the left end is below `r`. -/
theorem left_lt (r : ℝ) (h : segment r ≠ 1) : ((segment r : ℕ) : ℝ) - 1 < r := by
  have h1 := one_le_segment r
  have h63 := segment_le r
  by_contra hc
  have hle : r ≤ (((⟨segment r - 1, by omega⟩ : Fin 64).val : ℕ) : ℝ) := by
    show r ≤ ((segment r - 1 : ℕ) : ℝ)
    rw [Nat.cast_sub h1, Nat.cast_one]
    exact not_lt.1 hc
  have hcnt := count_le r _ hle
  have e : segment r = min 63 (max 1 (count r)) := rfl
  have hcnt' : count r ≤ segment r - 1 := hcnt
  omega

/-- Before the last segment, `r` is at most the right end. -/
theorem le_right (r : ℝ) (h : segment r ≠ 63) : r ≤ ((segment r : ℕ) : ℝ) := by
  have h63 := segment_le r
  by_contra hc
  have hcnt := lt_count r ⟨segment r, by omega⟩ (not_le.1 hc)
  have e : segment r = min 63 (max 1 (count r)) := rfl
  have hcnt' : segment r + 1 ≤ count r := hcnt
  omega

/-- The distance from `r`, moved into the grid, to the knot `k`, at most `1`. -/
def near (r : ℝ) (k : ℕ) : ℝ := min 1 |min 63 (max 0 r) - (k : ℝ)|

/-- The weight of the knot `k` by distances. -/
def weightByDistance (r : ℝ) (k : ℕ) : ℝ :=
  1 - near r k + min r 0 * ((if k = 1 then 1 else 0) - (if k = 0 then 1 else 0))
    + max (r - 63) 0 * ((if k = 63 then 1 else 0) - (if k = 62 then 1 else 0))

/-- The weight of the knot `k` on the segment. -/
def weightOnSegment (r : ℝ) (k : ℕ) : ℝ :=
  (1 - (r - ((segment r : ℕ) : ℝ) + 1)) * (if k + 1 = segment r then 1 else 0)
    + (r - ((segment r : ℕ) : ℝ) + 1) * (if k = segment r then 1 else 0)

/-- Two numbers a unit or more apart are at the full distance. -/
theorem min_one_abs {a : ℝ} (h : 1 ≤ a ∨ a ≤ -1) : min 1 |a| = 1 :=
  min_eq_left (by rcases h with h | h; exacts [h.trans (le_abs_self a), by have := neg_abs_le a; linarith])

/-- **The two forms agree at every knot.** -/
theorem weight_eq (r : ℝ) (k : ℕ) : weightOnSegment r k = weightByDistance r k := by
  have h1 := one_le_segment r
  have h63 := segment_le r
  have hl := left_lt r
  have hr := le_right r
  unfold weightOnSegment weightByDistance near
  generalize segment r = n at *
  have h1' : (1 : ℝ) ≤ n := by exact_mod_cast h1
  have h63' : (n : ℝ) ≤ 63 := by exact_mod_cast h63
  have hk0 : (0 : ℝ) ≤ k := Nat.cast_nonneg k
  rcases le_total r 0 with hneg | hpos
  · -- left of the grid: the first segment
    have hn : n = 1 := by
      by_contra hne
      have : (2 : ℝ) ≤ n := by exact_mod_cast (by omega : 2 ≤ n)
      linarith [hl hne]
    subst hn
    rw [max_eq_left hneg, min_eq_right (by norm_num : (0 : ℝ) ≤ 63), min_eq_left hneg,
      max_eq_right (by linarith : r - 63 ≤ 0)]
    rcases Nat.lt_or_ge k 2 with hk | hk
    · interval_cases k
      · norm_num; ring
      · norm_num
    · have hk' : (2 : ℝ) ≤ k := by exact_mod_cast hk
      rw [min_one_abs (Or.inr (by linarith)), if_neg (by omega), if_neg (by omega), if_neg (by omega)]
      ring
  · rcases le_total 63 r with hbig | hsmall
    · -- right of the grid: the last segment
      have hn : n = 63 := by
        by_contra hne
        have h62 : (n : ℝ) ≤ 62 := by exact_mod_cast (by omega : n ≤ 62)
        linarith [hr hne]
      subst hn
      rw [max_eq_right hpos, min_eq_left hbig, min_eq_right hpos, max_eq_left (by linarith : 0 ≤ r - 63)]
      rcases Nat.lt_or_ge k 62 with hk | hk
      · have hk' : (k : ℝ) ≤ 61 := by exact_mod_cast (by omega : k ≤ 61)
        rw [min_one_abs (Or.inl (by linarith)), if_neg (by omega : ¬ k + 1 = 63), if_neg (by omega : ¬ k = 63),
          if_neg (by omega : ¬ k = 62)]
        ring
      · rcases Nat.lt_or_ge k 64 with hk2 | hk2
        · interval_cases k
          · norm_num
          · norm_num; ring
        · have hk' : (64 : ℝ) ≤ k := by exact_mod_cast hk2
          rw [min_one_abs (Or.inr (by linarith)), if_neg (by omega : ¬ k + 1 = 63), if_neg (by omega : ¬ k = 63),
            if_neg (by omega : ¬ k = 62)]
          ring
    · -- within the grid
      have hlow : (n : ℝ) - 1 ≤ r := by
        by_cases hn : n = 1
        · subst hn; simpa using hpos
        · exact (hl hn).le
      have hhigh : r ≤ n := by
        by_cases hn : n = 63
        · subst hn; simpa using hsmall
        · exact hr hn
      rw [max_eq_right hpos, min_eq_right hsmall, min_eq_right hpos, max_eq_right (by linarith : r - 63 ≤ 0), zero_mul,
        zero_mul, add_zero, add_zero]
      rcases lt_trichotomy k n with hk | hk | hk
      · by_cases hk1 : k + 1 = n
        · have e : (k : ℝ) = n - 1 := by rw [← hk1]; push_cast; ring
          rw [if_pos hk1, if_neg (by omega), e, abs_of_nonneg (by linarith), min_eq_right (by linarith)]
          ring
        · have : (k : ℝ) + 2 ≤ n := by exact_mod_cast (by omega : k + 2 ≤ n)
          rw [if_neg hk1, if_neg (by omega), min_one_abs (Or.inl (by linarith))]
          ring
      · subst hk
        rw [if_neg (by omega), if_pos rfl, abs_of_nonpos (by linarith), min_eq_right (by linarith)]
        ring
      · have : (n : ℝ) + 1 ≤ k := by exact_mod_cast hk
        rw [if_neg (by omega), if_neg (by omega), min_one_abs (Or.inr (by linarith))]
        ring

end Cert.Spline

end
-- ==== Proof.KernelValue.lean ====
/- The kernel's result when every input, knot and value is real: at each index, the sum over features and knots of the
   weight by distance times the value at the knot. -/
module

public import proofs.«01_k».proof.Proof.KernelArrays
public import proofs.«01_k».proof.Proof.Spline

@[expose] public section

noncomputable section

open scoped BigOperators

namespace Cert.KernelValue

open Cert.KernelIdeal Cert.KernelIdeal.Gen Cert.KernelIdeal.Value Cert.KernelHats Cert.KernelBlock Cert.KernelArrays Cert.Spline
open Idealize.ShloMosaic Idealize.ShloMosaic.ValueIdx Idealize.ShloMosaic.TcCoe Idealize.SL.Sem

/-! ## Real numbers among the extended reals -/

theorem coe_sum {ι : Type} [Fintype ι] (f : ι → ℝ) : ((∑ i, f i : ℝ) : EReal) = ∑ i, ((f i : ℝ) : EReal) := by
  classical
  induction (Finset.univ : Finset ι) using Finset.induction_on with
  | empty => simp
  | insert a s ha ih => rw [Finset.sum_insert ha, Finset.sum_insert ha, EReal.coe_add, ih]

theorem coe_max (p q : ℝ) : ((max p q : ℝ) : EReal) = max (p : EReal) (q : EReal) :=
  EReal.coe_strictMono.monotone.map_max

theorem coe_min (p q : ℝ) : ((min p q : ℝ) : EReal) = min (p : EReal) (q : EReal) :=
  EReal.coe_strictMono.monotone.map_min

/-! ## One piece of the wide matrix -/

theorem evenWord_real (q : Fin 16) : Ideal.ofBits .f32 (evenWord q) = ((2 * (q.val : ℝ) : ℝ) : EReal) := by
  fin_cases q <;> simp [evenWord, Ideal.ofBits, Ideal.ieee, -EReal.coe_mul] <;> norm_num

theorem one_word : Ideal.ofBits .bf16 0x3F80#16 = ((1 : ℝ) : EReal) := by
  simp [Ideal.ofBits, Ideal.ieee, -EReal.coe_mul]
  norm_num

theorem zero_word : Ideal.ofBits .bf16 0x0000#16 = ((0 : ℝ) : EReal) := by
  simp [Ideal.ofBits, Ideal.ieee, -EReal.coe_mul]

variable {u : FVec Ideal S1024x256 .f32} {base : Ideal .f32} {r s : ℝ} {b : Fin 1024} {i : Fin 256}

theorem evenDiff_real (hu : u (ix2 b i) = (r : EReal)) (hb : base = (s : EReal)) (q : Fin 16) :
    evenDiff u base q (ix2 b i) = ((r - (s + 2 * (q.val : ℝ)) : ℝ) : EReal) := by
  show (u (ix2 b i) : EReal) - ((base : EReal) + Ideal.ofBits .f32 (evenWord q)) = _
  rw [hu, hb, evenWord_real, ← EReal.coe_add, ← EReal.coe_sub]

theorem diff_real (hu : u (ix2 b i) = (r : EReal)) (hb : base = (s : EReal)) (j : Fin 32) :
    diff u base j (ix2 b i) = ((r - (s + (j.val : ℝ)) : ℝ) : EReal) := by
  unfold diff
  split
  · rename_i h
    rw [evenDiff_real hu hb]
    have : (j.val : ℝ) = 2 * ((j.val / 2 : ℕ) : ℝ) := by exact_mod_cast (by omega : j.val = 2 * (j.val / 2))
    rw [this]
  · rename_i h
    show (evenDiff u base _ (ix2 b i) : EReal) - Ideal.ofBits .bf16 0x3F80#16 = _
    rw [evenDiff_real hu hb, one_word, ← EReal.coe_sub]
    have : (j.val : ℝ) = 2 * ((j.val / 2 : ℕ) : ℝ) + 1 := by exact_mod_cast (by omega : j.val = 2 * (j.val / 2) + 1)
    rw [this]
    congr 1
    ring

/-- A piece at real arguments. -/
theorem hat_real (hu : u (ix2 b i) = (r : EReal)) (hb : base = (s : EReal)) (j : Fin 32) :
    hat u base j (ix2 b i) = ((min 1 |r - (s + (j.val : ℝ))| : ℝ) : EReal) := by
  show min (Ideal.ofBits .bf16 0x3F80#16)
    (max (Ideal.ofBits .bf16 0x0000#16) (max (diff u base j (ix2 b i) : EReal) (-(diff u base j (ix2 b i) : EReal)))) = _
  rw [diff_real hu hb, one_word, zero_word, ← EReal.coe_neg, ← coe_max, ← coe_max, ← coe_min]
  exact congrArg (fun e : ℝ => ((min 1 e : ℝ) : EReal)) (max_eq_right (abs_nonneg _))

/-! ## One grid point -/

variable (m : (ℓ : Loc nD τ sig) → Buf (Elt Ideal) ℓ)

/-- The position of an input on the grid, as the kernel works it out. -/
def position (c : Dev nD) (b : Fin 1024) (i : Fin 256) : EReal :=
  (inputs m c (ix2 b i) - knots m c (ix1 0)) * Ideal.div ((63 : ℝ) : EReal) (knots m c (ix1 63) - knots m c (ix1 0))

/-- The parameters and inputs a point sees. -/
abbrev positions (c : Dev nD) (t : Fin cfg0.N) : FVec Ideal S1024x256 .f32 :=
  k0_pay2 (F := Ideal) (origin (iblk m c 0 t)) (scale (iblk m c 0 t)) (iblk m c 1 t)

theorem positions_apply (c : Dev nD) (t : Fin cfg0.N) (b : Fin 1024) (i : Fin 256) :
    positions m c t (ix2 b i) = position m c b i := by
  unfold positions position
  rw [origin_eq, scale_eq, block_params, params_origin, params_scale, block_inputs]
  rfl

theorem base_real (t : Fin cfg0.N) : k0_pay4 (F := Ideal) (grid0.coords t) = (((32 * t.val : ℕ) : ℝ) : EReal) := by
  have h : (Scalar.muli (BitVec.ofNat 32 (grid0.coords t 0).val) 32#32).toInt = ((32 * t.val : ℕ) : ℤ) := by
    rcases fin_N0 t with rfl | rfl <;> decide +kernel
  exact congrArg (fun z : ℝ => (z : EReal)) ((congrArg (fun z : ℤ => (z : ℝ)) h).trans (Int.cast_natCast _))

variable (c : Dev nD) (ρ : Fin 1024 → Fin 256 → ℝ) (y : Fin 256 → Fin 256 → Fin 64 → ℝ)
  (hρ : ∀ b i, position m c b i = ((ρ b i : ℝ) : EReal))
  (hy : ∀ i n k, values m c (ix3 i n k) = ((y i n k : ℝ) : EReal))

/-- The position kept within the grid. -/
theorem clamped_real (h : ∀ b i, position m c b i = ((ρ b i : ℝ) : EReal)) (t : Fin cfg0.N) (b : Fin 1024) (i : Fin 256) :
    k0_pay3 (F := Ideal) (origin (iblk m c 0 t)) (scale (iblk m c 0 t)) (iblk m c 1 t) (ix2 b i)
      = ((min 63 (max 0 (ρ b i)) : ℝ) : EReal) := by
  show min (Ideal.ofBits .f32 0x427C0000#32) (max (Ideal.ofBits .f32 0x00000000#32) (positions m c t (ix2 b i))) = _
  rw [ofBits_63, Ideal.ofBits_zero_f32, positions_apply, h, ← EReal.coe_zero, ← coe_max, ← coe_min]

/-- The knot `j` of the block at the point `t`. -/
def knotOf (t : Fin cfg0.N) (j : Fin 32) : Fin 64 :=
  ⟨32 * t.val + j.val, by have : t.val < 2 := lt_of_lt_of_eq t.isLt N_0; omega⟩

include hρ hy

/-- The main part of a point's work: the weights within the grid, for the point's thirty-two knots. -/
theorem body_real (t : Fin cfg0.N) (b : Fin 1024) (n : Fin 256) :
    k0_pay61 (wide (k0_pay3 (F := Ideal) (origin (iblk m c 0 t)) (scale (iblk m c 0 t)) (iblk m c 1 t))
        (k0_pay4 (grid0.coords t))) (iblk m c 2 t : Block) (iblk m c 2 t : Block) (ix2 b n)
      = ((∑ j : Fin 32, ∑ i : Fin 256,
          (1 - near (ρ b i) (knotOf t j).val) * y i n (knotOf t j) : ℝ) : EReal) := by
  rw [body_apply]
  have hblock : ∀ (j : Fin 32) (i : Fin 256), (iblk m c 2 t : Block) (ix3 j i n) = ((-(y i n (knotOf t j)) : ℝ) : EReal) :=
    fun j i => by rw [block_values m c t j i n (knotOf t j) rfl, hy, EReal.coe_neg]
  have hwide : ∀ (j : Fin 32) (i : Fin 256),
      wide (k0_pay3 (F := Ideal) (origin (iblk m c 0 t)) (scale (iblk m c 0 t)) (iblk m c 1 t))
        (k0_pay4 (grid0.coords t)) (ix2 b (rowAt j i)) = ((near (ρ b i) (knotOf t j).val : ℝ) : EReal) := fun j i => by
    rw [wide_apply _ _ b j i _ (rowAt_val j i), hat_real (clamped_real m c ρ hρ t b i) (base_real t) j]
    unfold near knotOf
    rw [Nat.cast_add]
  have h1 : (∑ j : Fin 32, ∑ i : Fin 256,
      wide (k0_pay3 (F := Ideal) (origin (iblk m c 0 t)) (scale (iblk m c 0 t)) (iblk m c 1 t))
        (k0_pay4 (grid0.coords t)) (ix2 b (rowAt j i)) * (iblk m c 2 t : Block) (ix3 j i n) : EReal)
      = ((∑ j : Fin 32, ∑ i : Fin 256, near (ρ b i) (knotOf t j).val * -(y i n (knotOf t j)) : ℝ) : EReal) := by
    simp only [coe_sum, EReal.coe_mul, hblock, hwide]
  have h2 : (∑ j : Fin 32, ∑ i : Fin 256, (iblk m c 2 t : Block) (ix3 j i n) : EReal)
      = ((∑ j : Fin 32, ∑ i : Fin 256, -(y i n (knotOf t j)) : ℝ) : EReal) := by
    simp only [coe_sum, hblock]
  rw [h1, h2, ← EReal.coe_zero, ← EReal.coe_sub, ← EReal.coe_add, zero_sub, ← sub_eq_add_neg]
  refine congrArg (fun e : ℝ => (e : EReal)) ?_
  simp only [← Finset.sum_sub_distrib]
  exact Finset.sum_congr rfl fun j _ => Finset.sum_congr rfl fun i _ => by ring

/-- What the buffer holds after the first point. -/
theorem first_real (b : Fin 1024) (n : Fin 256) :
    (outsAt0 m c t0_0.val t0_0.isLt : Vec Ideal S1024x256 .f32) (ix2 b n)
      = (((∑ j : Fin 32, ∑ i : Fin 256, (1 - near (ρ b i) (knotOf t0_0 j).val) * y i n (knotOf t0_0 j))
          + ∑ i : Fin 256, min (ρ b i) 0 * (y i n 1 - y i n 0) : ℝ) : EReal) := by
  rw [outsAt0_A m c t0_0 (by decide) (by decide), first_eq]
  refine (below_apply _ _ _ 0 1 _ _ b n).trans ?_
  rw [body_real m c ρ y hρ hy, EReal.coe_add]
  refine congrArg (_ + ·) ?_
  rw [coe_sum]
  refine Finset.sum_congr rfl fun i _ => ?_
  rw [show k0_pay2 (F := Ideal) _ _ _ (ix2 b i) = position m c b i from positions_apply m c t0_0 b i, hρ,
    block_values m c t0_0 0 i n 0 rfl, block_values m c t0_0 1 i n 1 rfl, hy, hy, ← EReal.coe_zero,
    ← coe_min, ← EReal.coe_neg, ← EReal.coe_neg, ← EReal.coe_sub, ← EReal.coe_mul]
  exact congrArg (fun e : ℝ => (e : EReal)) (by ring)

/-- **The kernel's result at real arguments.** -/
theorem result_real (b : Fin 1024) (n : Fin 256) :
    (result m c : Vec Ideal S1024x256 .f32) (ix2 b n)
      = ((∑ i : Fin 256, ∑ k : Fin 64, weightByDistance (ρ b i) k.val * y i n k : ℝ) : EReal) := by
  unfold result
  rw [outsAt0_B m c t0_1 (by decide) (by decide), last_eq]
  refine (above_apply _ _ _ 30 31 _ _ _ b n).trans ?_
  refine (congrArg₂ (fun p q : EReal => p + q) (first_real m c ρ y hρ hy b n)
    (congrArg₂ (fun p q : EReal => p + q) (body_real m c ρ y hρ hy t0_1 b n)
      (?_ : _ = ((∑ i : Fin 256, max (ρ b i - 63) 0 * (y i n 63 - y i n 62) : ℝ) : EReal)))).trans ?_
  · rw [coe_sum]
    refine Finset.sum_congr rfl fun i _ => ?_
    rw [show k0_pay2 (F := Ideal) _ _ _ (ix2 b i) = position m c b i from positions_apply m c t0_1 b i, hρ,
      block_values m c t0_1 30 i n 62 rfl, block_values m c t0_1 31 i n 63 rfl, hy, hy,
      ← EReal.coe_zero, ← EReal.coe_sub, ← coe_max, ← EReal.coe_neg, ← EReal.coe_neg, ← EReal.coe_sub, ← EReal.coe_mul]
    exact congrArg (fun e : ℝ => (e : EReal)) (by ring)
  beta_reduce
  rw [← EReal.coe_add]
  rw [← EReal.coe_add]
  refine congrArg (fun e : ℝ => (e : EReal)) ?_
  have hsplit : ∀ f : Fin 64 → ℝ,
      ∑ k, f k = (∑ j : Fin 32, f (knotOf t0_0 j)) + ∑ j : Fin 32, f (knotOf t0_1 j) := fun f => by
    refine (Fin.sum_univ_add (a := 32) (b := 32) f).trans (congrArg₂ (· + ·) ?_ ?_)
    · exact Finset.sum_congr rfl fun j _ => congrArg f (Fin.ext (Nat.zero_add _).symm)
    · exact Finset.sum_congr rfl fun j _ => congrArg f (Fin.ext rfl)
  have hpick : ∀ (i : Fin 256) (k₀ : Fin 64), ∑ k : Fin 64, (if k.val = k₀.val then (1 : ℝ) else 0) * y i n k = y i n k₀ :=
    fun i k₀ => by simp [← Fin.ext_iff]
  have hweights : ∀ i : Fin 256, ∑ k : Fin 64, weightByDistance (ρ b i) k.val * y i n k
      = (∑ k : Fin 64, (1 - near (ρ b i) k.val) * y i n k) + min (ρ b i) 0 * (y i n 1 - y i n 0)
        + max (ρ b i - 63) 0 * (y i n 63 - y i n 62) := fun i => by
    rw [← hpick i 1, ← hpick i 0, ← hpick i 63, ← hpick i 62, ← Finset.sum_sub_distrib, ← Finset.sum_sub_distrib,
      Finset.mul_sum, Finset.mul_sum, ← Finset.sum_add_distrib, ← Finset.sum_add_distrib]
    refine Finset.sum_congr rfl fun k _ => ?_
    unfold weightByDistance
    simp only [show ((1 : Fin 64).val) = 1 from rfl, show ((0 : Fin 64).val) = 0 from rfl,
      show ((63 : Fin 64).val) = 63 from rfl, show ((62 : Fin 64).val) = 62 from rfl]
    ring
  simp only [hweights, Finset.sum_add_distrib, hsplit]
  rw [Finset.sum_comm (s := (Finset.univ : Finset (Fin 32))), Finset.sum_comm (s := (Finset.univ : Finset (Fin 32)))]
  ring

end Cert.KernelValue

end
-- ==== Proof.RefValue.lean ====
/- The reference's result read at an index: the segment an input falls in, its two weights, and the contraction with
   the values at the knots. -/
module

public import proofs.«01_k».proof.Proof.Gen.ReferenceIdeal.Read
public import Idealize.ShloMosaic.Lib.ValueIdx
public import Idealize.ShloMosaic.Lib.TwoAxisContraction
public import Idealize.ShloMosaic.Lib.StableHlo.Predicate
public import Idealize.ShloMosaic.PureOps.Ideal.Laws

@[expose] public section

noncomputable section

open scoped BigOperators

namespace Cert.RefValue

open Cert.ReferenceIdeal Cert.ReferenceIdeal.Gen Cert.ReferenceIdeal.Read
open Idealize.ShloMosaic Idealize.ShloMosaic.ValueIdx

/-- The inputs, the knots and the values at the knots, as extended reals. -/
abbrev Inputs := (⟨S1024x256, .f32⟩ : BufTy).Contents (Elt Ideal)
/-- The knots. -/
abbrev Knots := (⟨S64, .f32⟩ : BufTy).Contents (Elt Ideal)
/-- The values at the knots. -/
abbrev Values := (⟨S256x256x64, .f32⟩ : BufTy).Contents (Elt Ideal)

/-- How many knots lie strictly below the input `(b, i)`. -/
def below (x : Inputs) (X : Knots) (b : Fin 1024) (i : Fin 256) : ℕ :=
  (Finset.univ.filter fun k : Fin 64 => X (ix1 k) < x (ix2 b i)).card

/-- The right end of the segment the input `(b, i)` is interpolated on: that count, kept within `1 … 63`. -/
def seg (x : Inputs) (X : Knots) (b : Fin 1024) (i : Fin 256) : ℕ := min 63 (max 1 (below x X b i))

theorem below_le (x : Inputs) (X : Knots) (b : Fin 1024) (i : Fin 256) : below x X b i ≤ 64 :=
  (Finset.card_le_univ _).trans (by simp)

theorem one_le_seg (x : Inputs) (X : Knots) (b : Fin 1024) (i : Fin 256) : 1 ≤ seg x X b i := by
  unfold seg; omega

theorem seg_le (x : Inputs) (X : Knots) (b : Fin 1024) (i : Fin 256) : seg x X b i ≤ 63 := by
  unfold seg; omega

/-- The comparison of knot `k` with the input, as a bit. -/
theorem mask_apply (x : Inputs) (X : Knots) (b : Fin 1024) (i : Fin 256) (k : Fin 64) :
    val_main_v4 (F := Ideal) x X (ix3 b i k) = BitVec.ofBool (decide (X (ix1 k) < x (ix2 b i))) := by
  rw [val_main_v4_apply, val_main_v2_apply, val_main_v0_apply, val_main_v3_apply, val_main_v1_apply]
  have h1 : idx_main_v0 (idx_main_v2 (ix3 b i k)) = ix1 k := by funext a; match a with | ⟨0, _⟩ => rfl
  have h2 : idx_main_v1 (idx_main_v3 (ix3 b i k)) = ix2 b i := by
    funext a; match a with | ⟨0, _⟩ => rfl | ⟨1, _⟩ => rfl
  rw [h1, h2]
  rfl

/-- The sum of the comparison bits over the knots is the count. -/
theorem count_toNat (x : Inputs) (X : Knots) (b : Fin 1024) (i : Fin 256) :
    (val_main_v6 (F := Ideal) x X (ix2 b i)).toNat = below x X b i := by
  unfold val_main_v6
  rw [Host.reduce_eq_fold]
  have hval : ∀ q : S1024x256x64.Idx, (val_main_v5 (F := Ideal) x X q).toNat
      = if val_main_v4 (F := Ideal) x X q = 1#1 then 1 else 0 := fun q => by
    rw [val_main_v5_apply]; exact StableHlo.Predicate.toNat_setWidth_bit _
  have hdrop : ∀ q : S1024x256x64.Idx,
      reducesTo_S1024x256x64_S1024x256_d2.drop q = ix2 b i ↔ q 0 = b ∧ q 1 = i := by
    intro q
    have h0 : ((reducesTo_S1024x256x64_S1024x256_d2.drop q) 0 : ℕ) = q 0 :=
      Shape.ReducesTo.drop_apply_val reducesTo_S1024x256x64_S1024x256_d2 q 0
    have h1 : ((reducesTo_S1024x256x64_S1024x256_d2.drop q) 1 : ℕ) = q 1 :=
      Shape.ReducesTo.drop_apply_val reducesTo_S1024x256x64_S1024x256_d2 q 1
    constructor
    · intro e; rw [e] at h0 h1; exact ⟨Fin.ext h0.symm, Fin.ext h1.symm⟩
    · rintro ⟨e0, e1⟩
      funext a
      match a with
      | ⟨0, _⟩ => exact Fin.ext (h0.trans (congrArg Fin.val e0))
      | ⟨1, _⟩ => exact Fin.ext (h1.trans (congrArg Fin.val e1))
  have hback : ∀ q : S1024x256x64.Idx, q 0 = b ∧ q 1 = i → ix3 b i (q 2) = q := fun q h => by
    funext a
    match a with
    | ⟨0, _⟩ => exact h.1.symm
    | ⟨1, _⟩ => exact h.2.symm
    | ⟨2, _⟩ => rfl
  have hsum : ∑ q ∈ Finset.univ.filter (fun q : S1024x256x64.Idx =>
        reducesTo_S1024x256x64_S1024x256_d2.drop q = ix2 b i), (val_main_v5 (F := Ideal) x X q).toNat
      = below x X b i := by
    unfold below
    rw [Finset.card_filter]
    refine Finset.sum_bij' (fun q _ => q 2) (fun k _ => ix3 b i k) (fun _ _ => Finset.mem_univ _)
      (fun k _ => Finset.mem_filter.2 ⟨Finset.mem_univ _, (hdrop _).2 ⟨rfl, rfl⟩⟩)
      (fun q hq => hback q ((hdrop q).1 (Finset.mem_filter.1 hq).2)) (fun _ _ => rfl) ?_
    intro q hq
    have hm : val_main_v4 (F := Ideal) x X q = BitVec.ofBool (decide (X (ix1 (q 2)) < x (ix2 b i))) :=
      (congrArg (val_main_v4 (F := Ideal) x X) (hback q ((hdrop q).1 (Finset.mem_filter.1 hq).2)).symm).trans
        (mask_apply x X b i (q 2))
    rw [hval, hm]
    by_cases h : X (ix1 (q 2)) < x (ix2 b i)
    · simp [h]
    · simp [h]
  show (Finset.fold IntOp.addi 0#32 (val_main_v5 (F := Ideal) x X) _).toNat = _
  rw [StableHlo.Predicate.toNat_fold_addi _ _ (by rw [hsum]; exact lt_of_le_of_lt (below_le x X b i) (by norm_num)), hsum]

/-- Keeping a count of at most 64 within `1 … 63`, on words. -/
theorem clip_word : ∀ c : Fin 65, IntOp.minsi 63#32 (IntOp.maxsi 1#32 (BitVec.ofNat 32 c.val))
    = BitVec.ofNat 32 (min 63 (max 1 c.val)) := by decide

/-- A left neighbour's word, as the index arithmetic spells it (wrapped once when negative), read as a position. -/
theorem left_word : ∀ n : Fin 64, 1 ≤ n.val →
    min (Scalar.select (IntOp.cmpi .slt (IntOp.subi (BitVec.ofNat 32 n.val) 1#32) 0#32)
      (IntOp.addi (IntOp.subi (BitVec.ofNat 32 n.val) 1#32) 64#32) (IntOp.subi (BitVec.ofNat 32 n.val) 1#32)).toInt.toNat
      (64 - 1) = n.val - 1 := by decide

/-- A right end's word read as a position. -/
theorem right_word : ∀ n : Fin 64,
    min (Scalar.select (IntOp.cmpi .slt (BitVec.ofNat 32 n.val) 0#32) (IntOp.addi (BitVec.ofNat 32 n.val) 64#32)
      (BitVec.ofNat 32 n.val)).toInt.toNat (64 - 1) = n.val := by decide

/-- The clipped count is the segment's right end. -/
theorem seg_word (x : Inputs) (X : Knots) (b : Fin 1024) (i : Fin 256) :
    val_main_v7 (F := Ideal) x X (ix2 b i) = BitVec.ofNat 32 (seg x X b i) := by
  rw [val_main_v7_apply, val_main_call0_v2_apply, val_main_call0_v4_apply, val_main_call0_v1_apply]
  have hw : val_main_v6 (F := Ideal) x X (ix2 b i) = BitVec.ofNat 32 (below x X b i) := by
    apply BitVec.eq_of_toNat_eq
    rw [count_toNat, BitVec.toNat_ofNat, Nat.mod_eq_of_lt (lt_of_le_of_lt (below_le x X b i) (by norm_num))]
  rw [hw]
  exact clip_word ⟨below x X b i, Nat.lt_succ_of_le (below_le x X b i)⟩

/-- The knot at the left end of the segment. -/
theorem left_knot (x : Inputs) (X : Knots) (b : Fin 1024) (i : Fin 256) :
    val_main_v16 (F := Ideal) x X (ix2 b i)
      = X (ix1 ⟨seg x X b i - 1, by have := seg_le x X b i; omega⟩) := by
  unfold val_main_v16
  refine (gather_take_apply (N := 64) (R := 1024) (C := 256) (by norm_num) (by decide) X _ (ix2 b i)).trans ?_
  refine congrArg X (congrArg ix1 (Fin.ext ?_))
  show min (val_main_v15 (F := Ideal) x X (takeIdx (ix2 b i))).toInt.toNat (64 - 1) = _
  rw [val_main_v15_apply]
  have h1 : idx_main_v15 (takeIdx (ix2 b i)) = ix2 b i := by
    funext a; match a with | ⟨0, _⟩ => rfl | ⟨1, _⟩ => rfl
  rw [h1, val_main_v14_apply, val_main_v13_apply, val_main_v11_apply, val_main_v9_apply, val_main_v8_apply,
    val_main_v10_apply, val_main_v12_apply, seg_word]
  exact left_word ⟨seg x X b i, Nat.lt_succ_of_le (seg_le x X b i)⟩ (one_le_seg x X b i)

/-- The knot at the right end of the segment. -/
theorem right_knot (x : Inputs) (X : Knots) (b : Fin 1024) (i : Fin 256) :
    val_main_v23 (F := Ideal) x X (ix2 b i)
      = X (ix1 ⟨seg x X b i, by have := seg_le x X b i; omega⟩) := by
  unfold val_main_v23
  refine (gather_take_apply (N := 64) (R := 1024) (C := 256) (by norm_num) (by decide) X _ (ix2 b i)).trans ?_
  refine congrArg X (congrArg ix1 (Fin.ext ?_))
  show min (val_main_v22 (F := Ideal) x X (takeIdx (ix2 b i))).toInt.toNat (64 - 1) = _
  rw [val_main_v22_apply]
  have h1 : idx_main_v22 (takeIdx (ix2 b i)) = ix2 b i := by
    funext a; match a with | ⟨0, _⟩ => rfl | ⟨1, _⟩ => rfl
  rw [h1, val_main_v21_apply, val_main_v20_apply, val_main_v18_apply, val_main_v17_apply, val_main_v19_apply, seg_word]
  exact right_word ⟨seg x X b i, Nat.lt_succ_of_le (seg_le x X b i)⟩

/-- The position of the input on its segment, `0` at the left end and `1` at the right. -/
def frac (x : Inputs) (X : Knots) (b : Fin 1024) (i : Fin 256) : EReal :=
  Ideal.div (x (ix2 b i) - X (ix1 ⟨seg x X b i - 1, by have := seg_le x X b i; omega⟩))
    (X (ix1 ⟨seg x X b i, by have := seg_le x X b i; omega⟩)
      - X (ix1 ⟨seg x X b i - 1, by have := seg_le x X b i; omega⟩))

theorem frac_apply (x : Inputs) (X : Knots) (b : Fin 1024) (i : Fin 256) :
    val_main_v26 (F := Ideal) x X (ix2 b i) = frac x X b i := by
  rw [val_main_v26_apply, val_main_v24_apply, val_main_v25_apply, left_knot, right_knot]
  rfl

/-- Comparing a segment's left end with a knot's number, on words. -/
theorem hot_left_word : ∀ n k : Fin 64, 1 ≤ n.val →
    IntOp.cmpi .eq (IntOp.subi (BitVec.ofNat 32 n.val) 1#32) (BitVec.ofNat 32 k.val)
      = BitVec.ofBool (decide (k.val + 1 = n.val)) := by
  intro n k hn
  have e : IntOp.subi (BitVec.ofNat 32 n.val) 1#32 = BitVec.ofNat 32 (n.val - 1) := by
    revert n; decide
  rw [e]
  have hn' := n.isLt
  have hk' := k.isLt
  have h : (BitVec.ofNat 32 (n.val - 1) = BitVec.ofNat 32 k.val) ↔ k.val + 1 = n.val := by
    rw [← BitVec.toNat_inj, BitVec.toNat_ofNat, BitVec.toNat_ofNat, Nat.mod_eq_of_lt (by omega), Nat.mod_eq_of_lt (by omega)]
    omega
  show BitVec.ofBool (BitVec.ofNat 32 (n.val - 1) == BitVec.ofNat 32 k.val) = _
  congr 1
  rw [Bool.eq_iff_iff, beq_iff_eq, decide_eq_true_eq, h]

/-- Comparing a segment's right end with a knot's number, on words. -/
theorem hot_right_word (n k : Fin 64) :
    IntOp.cmpi .eq (BitVec.ofNat 32 n.val) (BitVec.ofNat 32 k.val) = BitVec.ofBool (decide (k.val = n.val)) := by
  have hn' := n.isLt
  have hk' := k.isLt
  have h : (BitVec.ofNat 32 n.val = BitVec.ofNat 32 k.val) ↔ k.val = n.val := by
    rw [← BitVec.toNat_inj, BitVec.toNat_ofNat, BitVec.toNat_ofNat, Nat.mod_eq_of_lt (by omega), Nat.mod_eq_of_lt (by omega)]
    omega
  show BitVec.ofBool (BitVec.ofNat 32 n.val == BitVec.ofNat 32 k.val) = _
  congr 1
  rw [Bool.eq_iff_iff, beq_iff_eq, decide_eq_true_eq, h]

/-- A decided bit converted to a float is `1` or `0`. -/
theorem uitofp_bit (p : Prop) [Decidable p] :
    (FloatOps.uitofp (F := Ideal) .f32 (BitVec.ofBool (decide p)) : EReal) = if p then 1 else 0 := by
  by_cases h : p
  · simp [h, FloatOps.uitofp]
  · simp [h, FloatOps.uitofp]

/-- The marker of the segment's left end. -/
theorem hot_left (x : Inputs) (X : Knots) (b : Fin 1024) (i : Fin 256) (k : Fin 64) :
    (val_main_v29 (F := Ideal) x X (ix3 b i k) : EReal) = if k.val + 1 = seg x X b i then 1 else 0 := by
  rw [val_main_v29_apply, val_main_call1_v4_apply, val_main_call1_v2_apply, val_main_call1_v0_apply,
    val_main_call1_v3_apply, val_main_call1_v1_apply]
  have h1 : idx_main_call1_v0 (idx_main_call1_v2 (ix3 b i k)) = ix2 b i := by
    funext a; match a with | ⟨0, _⟩ => rfl | ⟨1, _⟩ => rfl
  rw [h1, val_main_v28_apply, val_main_v27_apply, seg_word]
  have h2 := hot_left_word ⟨seg x X b i, Nat.lt_succ_of_le (seg_le x X b i)⟩ k (one_le_seg x X b i)
  exact (congrArg (fun w => (FloatOps.uitofp (F := Ideal) .f32 w : EReal)) h2).trans (uitofp_bit _)

/-- The marker of the segment's right end. -/
theorem hot_right (x : Inputs) (X : Knots) (b : Fin 1024) (i : Fin 256) (k : Fin 64) :
    (val_main_v30 (F := Ideal) x X (ix3 b i k) : EReal) = if k.val = seg x X b i then 1 else 0 := by
  rw [val_main_v30_apply, val_main_call2_v4_apply, val_main_call2_v2_apply, val_main_call2_v0_apply,
    val_main_call2_v3_apply, val_main_call2_v1_apply]
  have h1 : idx_main_call2_v0 (idx_main_call2_v2 (ix3 b i k)) = ix2 b i := by
    funext a; match a with | ⟨0, _⟩ => rfl | ⟨1, _⟩ => rfl
  rw [h1, seg_word]
  have h2 := hot_right_word ⟨seg x X b i, Nat.lt_succ_of_le (seg_le x X b i)⟩ k
  exact (congrArg (fun w => (FloatOps.uitofp (F := Ideal) .f32 w : EReal)) h2).trans (uitofp_bit _)

/-- The single-precision word of one. -/
theorem ofBits_one : Ideal.ofBits .f32 0x3F800000#32 = 1 := by
  simp [Ideal.ofBits, Ideal.ieee, -EReal.coe_mul]; norm_num

/-- The weight of knot `k` for the input `(b, i)`. -/
def weight (x : Inputs) (X : Knots) (b : Fin 1024) (i : Fin 256) (k : Fin 64) : EReal :=
  (1 - frac x X b i) * (if k.val + 1 = seg x X b i then 1 else 0) + frac x X b i * (if k.val = seg x X b i then 1 else 0)

theorem weight_apply (x : Inputs) (X : Knots) (b : Fin 1024) (i : Fin 256) (k : Fin 64) :
    val_main_v39 (F := Ideal) x X (ix3 b i k) = weight x X b i k := by
  rw [val_main_v39_apply, val_main_v35_apply, val_main_v38_apply, hot_left, hot_right, val_main_v34_apply,
    val_main_v33_apply, val_main_v37_apply, val_main_v36_apply]
  have h1 : idx_main_v33 (idx_main_v34 (ix3 b i k)) = ix2 b i := by
    funext a; match a with | ⟨0, _⟩ => rfl | ⟨1, _⟩ => rfl
  have h2 : idx_main_v36 (idx_main_v37 (ix3 b i k)) = ix2 b i := by
    funext a; match a with | ⟨0, _⟩ => rfl | ⟨1, _⟩ => rfl
  rw [h1, h2, val_main_v32_apply, frac_apply, val_main_v31_apply, val_main_cst_apply]
  show (Ideal.ofBits .f32 0x3F800000#32 - frac x X b i) * _ + frac x X b i * _ = _
  rw [ofBits_one]
  rfl

/-- The contraction's index: an input of the row and a knot. -/
abbrev pairAt (p : Fin 256 × Fin 64) : dot_S1024x256x64_S256x256x64_S1024x256_12_02_0_1_n_n.contr.Idx :=
  (contrEquiv2 dot_S1024x256x64_S256x256x64_S1024x256_12_02_0_1_n_n 256 64 rfl rfl rfl).symm p

/-- Where the contraction reads the weights. -/
theorem weights_at (b : Fin 1024) (j : Fin 256) (i : Fin 256) (k : Fin 64) :
    dot_S1024x256x64_S256x256x64_S1024x256_12_02_0_1_n_n.lhsIdx (ix2 b j) (pairAt (i, k)) = ix3 b i k := by
  funext a
  match a with
  | ⟨0, _⟩ => exact Fin.ext rfl
  | ⟨1, _⟩ => exact Fin.ext (contrEquiv2_symm_val0 dot_S1024x256x64_S256x256x64_S1024x256_12_02_0_1_n_n 256 64 rfl rfl rfl (i, k))
  | ⟨2, _⟩ => exact Fin.ext (contrEquiv2_symm_val1 dot_S1024x256x64_S256x256x64_S1024x256_12_02_0_1_n_n 256 64 rfl rfl rfl (i, k))

/-- Where the contraction reads the values. -/
theorem values_at (b : Fin 1024) (j : Fin 256) (i : Fin 256) (k : Fin 64) :
    dot_S1024x256x64_S256x256x64_S1024x256_12_02_0_1_n_n.rhsIdx (ix2 b j) (pairAt (i, k)) = ix3 i j k := by
  funext a
  match a with
  | ⟨0, _⟩ => exact Fin.ext (contrEquiv2_symm_val0 dot_S1024x256x64_S256x256x64_S1024x256_12_02_0_1_n_n 256 64 rfl rfl rfl (i, k))
  | ⟨1, _⟩ => exact Fin.ext rfl
  | ⟨2, _⟩ => exact Fin.ext (contrEquiv2_symm_val1 dot_S1024x256x64_S256x256x64_S1024x256_12_02_0_1_n_n 256 64 rfl rfl rfl (i, k))

/-- **The reference's result at `(b, j)`**: over every input of row `b` and every knot, the weight times the value. -/
theorem result_apply (x : Inputs) (X : Knots) (Y : Values) (b : Fin 1024) (j : Fin 256) :
    val_main_v40 (F := Ideal) x X Y (ix2 b j)
      = ∑ i : Fin 256, ∑ k : Fin 64, weight x X b i k * Y (ix3 i j k) := by
  unfold val_main_v40
  generalize hw : val_main_v39 (F := Ideal) x X = w
  refine (Ideal.dotGeneral_apply _ _ _ _ _ _).trans ?_
  rw [sum_contr2 dot_S1024x256x64_S256x256x64_S1024x256_12_02_0_1_n_n 256 64 rfl rfl rfl]
  refine Finset.sum_congr rfl fun i _ => Finset.sum_congr rfl fun k _ => ?_
  have h := weights_at b j i k
  have h' := values_at b j i k
  unfold pairAt at h h'
  rw [h, h', ← hw, weight_apply]

end Cert.RefValue

end
-- ==== Proof.Precondition.lean ====
/- What the precondition says: the inputs and the values are real numbers, and the knots are `a, a + h, …, a + 63 h` for a
   real `a` and a positive real `h`. -/
module

public import proofs.«01_k».proof.Proof.Gen.Pre_tame
public import Idealize.ShloMosaic.Lib.ValueIdx
public import Idealize.ShloMosaic.Lib.ReduceAll
public import Idealize.ShloMosaic.Lib.Pipeline.Value
public import Idealize.ShloMosaic.PureOps.Ideal.Laws

@[expose] public section

noncomputable section

namespace Cert.Precondition

open Cert.Pre_tame Cert.Pre_tame.Gen
open Idealize.ShloMosaic Idealize.ShloMosaic.ValueIdx

/-- The inputs. -/
abbrev Inputs := FVec Ideal S1024x256 .f32
/-- The knots. -/
abbrev Knots := FVec Ideal S64 .f32
/-- The values at the knots. -/
abbrev Values := FVec Ideal S256x256x64 .f32

instance : Subsingleton S_.Idx := ⟨fun i j => funext fun a => a.elim0⟩

/-- A comparison that came out true holds. -/
theorem ofBool_true {p : Prop} [Decidable p] (h : BitVec.ofBool (decide p) = 1#1) : p := by
  by_contra hp
  rw [decide_eq_false hp] at h
  exact absurd h (by decide)

theorem ofBits_top : Ideal.ofBits .f32 0x7F800000#32 = ⊤ := by
  simp [Ideal.ofBits, Ideal.ieee]

theorem ofBits_63 : Ideal.ofBits .f32 0x427C0000#32 = ((63 : ℝ) : EReal) := by
  simp [Ideal.ofBits, Ideal.ieee, -EReal.coe_mul]
  norm_num

/-- An extended real whose absolute value is below `⊤` is a real number. -/
theorem real_of_abs {e : EReal} (h : max e (-e) < ⊤) : ((e.toReal : ℝ) : EReal) = e := by
  refine EReal.coe_toReal (ne_of_lt (lt_of_le_of_lt (le_max_left _ _) h)) fun hb => ?_
  subst hb
  exact absurd (lt_of_le_of_lt (le_max_right _ _) h) (by simp)

/-- A knot cut out of the array and made a scalar. -/
theorem cut_apply (X : Knots) (k : Fin 64) (h : S64.Slices ![k.val] S1) (i : S_.Idx) :
    shapeCast S_ (extractStridedSlice S1 ![k.val] X h) shapeCasts_S1_S_ i = X (ix1 k) := by
  refine (shapeCast_apply _ _ i (ix1 0) ?_).trans ?_
  · rw [Nat.lt_one_iff.1 (lt_of_lt_of_eq (S1.rowMajor (ix1 0)).isLt (by decide)),
      Nat.lt_one_iff.1 (lt_of_lt_of_eq (S_.rowMajor i).isLt (by decide))]
  · refine extractStridedSlice_apply _ X h (ix1 0) (ix1 k) fun a => ?_
    match a with
    | ⟨0, _⟩ => rfl

/-- The position of a knot as a 32-bit word. -/
theorem word_toInt (k : Fin 64) : (BitVec.ofNat 32 k.val).toInt = (k.val : ℤ) := by revert k; decide +kernel

variable (x : Inputs) (X : Knots) (Y : Values)

/-- The four conditions one by one. -/
theorem conditions (h : Cert.Pre_tame.fn (F := Ideal) x X Y = fun _ => 1#1) :
    (∀ k : Fin 64, X (ix1 k)
        = X (ix1 0) + ((k.val : ℝ) : EReal) * Ideal.div (X (ix1 63) - X (ix1 0)) ((63 : ℝ) : EReal))
      ∧ (∀ k : Fin 63, X (ix1 k.castSucc) < X (ix1 k.succ))
      ∧ (∀ b i, max (x (ix2 b i)) (-x (ix2 b i)) < ⊤)
      ∧ (∀ i n k, max (Y (ix3 i n k)) (-Y (ix3 i n k)) < ⊤) := by
  have e := congrFun h ix0
  unfold Cert.Pre_tame.fn fn_part1 at e
  dsimp only at e
  obtain ⟨e, hY⟩ := IntOp.andi_eq_one.1 e
  obtain ⟨e, hx⟩ := IntOp.andi_eq_one.1 e
  obtain ⟨hu, hl⟩ := IntOp.andi_eq_one.1 e
  refine ⟨fun k => ?_, fun k => ?_, fun b i => ?_, fun i n k => ?_⟩
  · have := ofBool_true (Host.reduce_andi_all _ _ _ _ _ hu (ix1 k))
    refine this.trans ?_
    refine congrArg₂ (fun p q : EReal => p + q) (cut_apply X 0 _ _) ?_
    refine congrArg₂ (fun p q : EReal => p * q) ?_ ?_
    · show (((BitVec.ofNat 32 k.val).toInt : ℝ) : EReal) = _
      rw [word_toInt]
      exact congrArg (fun r : ℝ => (r : EReal)) (Int.cast_natCast _)
    · exact congrArg₂ Ideal.div (congrArg₂ (fun p q : EReal => p - q) (cut_apply X 63 slices_S64_S1_63 _)
        (cut_apply X 0 slices_S64_S1_0 _)) ofBits_63
  · have := ofBool_true (Host.reduce_andi_all _ _ _ _ _ hl (ix1 k))
    refine lt_of_eq_of_lt (congrArg X ?_) (lt_of_lt_of_eq this (congrArg X ?_))
    · exact funext fun a => Fin.ext (by fin_cases a; exact (Nat.zero_add _).symm)
    · exact funext fun a => Fin.ext (by fin_cases a; exact Nat.add_comm _ _)
  · exact lt_of_lt_of_eq (ofBool_true (Host.reduce_andi_all _ _ _ _ _ hx (ix2 b i))) ofBits_top
  · exact lt_of_lt_of_eq (ofBool_true (Host.reduce_andi_all _ _ _ _ _ hY (ix3 i n k))) ofBits_top

/-- A number strictly between two others is real. -/
theorem real_between {p q r : EReal} (h : p < q) (h' : q < r) : ((q.toReal : ℝ) : EReal) = q :=
  EReal.coe_toReal (ne_of_lt (lt_of_lt_of_le h' le_top)) (ne_of_gt (lt_of_le_of_lt bot_le h))

/-- **The precondition in real numbers.** -/
theorem reals (h : Cert.Pre_tame.fn (F := Ideal) x X Y = fun _ => 1#1) :
    ∃ (ξ : Fin 1024 → Fin 256 → ℝ) (a g : ℝ) (y : Fin 256 → Fin 256 → Fin 64 → ℝ),
      0 < g ∧ (∀ b i, x (ix2 b i) = ((ξ b i : ℝ) : EReal))
        ∧ (∀ k : Fin 64, X (ix1 k) = ((a + (k.val : ℝ) * g : ℝ) : EReal))
        ∧ (∀ i n k, Y (ix3 i n k) = ((y i n k : ℝ) : EReal)) := by
  obtain ⟨hu, hl, hx, hY⟩ := conditions x X Y h
  have l0 : X (ix1 0) < X (ix1 1) := hl 0
  have l1 : X (ix1 1) < X (ix1 2) := hl 1
  have l62 : X (ix1 62) < X (ix1 63) := hl 62
  have hbot : X (ix1 0) ≠ ⊥ := fun hb => by
    have e := hu 1
    rw [hb, EReal.bot_add] at e
    rw [hb, e] at l0
    exact lt_irrefl _ l0
  obtain ⟨a, ha⟩ : ∃ a : ℝ, X (ix1 0) = (a : EReal) :=
    ⟨_, (EReal.coe_toReal (ne_of_lt (lt_of_lt_of_le l0 le_top)) hbot).symm⟩
  have htop : X (ix1 63) ≠ ⊤ := fun ht => by
    have e1 := hu 1
    have hd : Ideal.div ((⊤ : EReal) - (a : EReal)) ((63 : ℝ) : EReal) = ⊤ := by
      rw [EReal.top_sub_coe, Ideal.div_coe (by norm_num)]
      exact EReal.top_mul_coe_of_pos (by norm_num)
    rw [ht, ha, hd] at e1
    have : X (ix1 1) = ⊤ := by
      rw [e1]
      simp
    rw [this] at l1
    exact not_top_lt l1
  obtain ⟨z, hz⟩ : ∃ z : ℝ, X (ix1 63) = (z : EReal) :=
    ⟨_, (EReal.coe_toReal htop (ne_of_gt (lt_of_le_of_lt bot_le l62))).symm⟩
  have hk : ∀ k : Fin 64, X (ix1 k) = ((a + (k.val : ℝ) * ((z - a) / 63) : ℝ) : EReal) := fun k => by
    rw [hu k, ha, hz, ← EReal.coe_sub, Ideal.div_coe (by norm_num), ← EReal.coe_mul, ← EReal.coe_mul, ← EReal.coe_add,
      mul_one_div]
  refine ⟨fun b i => (x (ix2 b i)).toReal, a, (z - a) / 63, fun i n k => (Y (ix3 i n k)).toReal, ?_,
    fun b i => (real_of_abs (hx b i)).symm, hk, fun i n k => (real_of_abs (hY i n k)).symm⟩
  have := l0
  rw [hk 0, hk 1, EReal.coe_lt_coe_iff] at this
  norm_num at this
  linarith

end Cert.Precondition

end
-- ==== Proof.Equation.lean ====
/- The kernel's result is the reference's, at every index, wherever the precondition holds. -/
module

public import proofs.«01_k».proof.Proof.KernelValue
public import proofs.«01_k».proof.Proof.RefValue
public import proofs.«01_k».proof.Proof.Precondition

@[expose] public section

noncomputable section

open scoped BigOperators

namespace Cert.Equation

open Idealize.ShloMosaic Idealize.ShloMosaic.ValueIdx Idealize.ShloMosaic.TcCoe Idealize.SL.Sem

/-! ## The reference at real arguments -/

section Reference

open Cert.RefValue

variable {x : Inputs} {X : Knots} {Y : Values} {ξ : Fin 1024 → Fin 256 → ℝ} {a g : ℝ} {y : Fin 256 → Fin 256 → Fin 64 → ℝ}
  (hg : 0 < g) (hx : ∀ b i, x (ix2 b i) = ((ξ b i : ℝ) : EReal))
  (hX : ∀ k : Fin 64, X (ix1 k) = ((a + (k.val : ℝ) * g : ℝ) : EReal))
  (hY : ∀ i n k, Y (ix3 i n k) = ((y i n k : ℝ) : EReal))

include hg hx hX

/-- The segment of an input is that of its position on the grid. -/
theorem seg_eq (b : Fin 1024) (i : Fin 256) : seg x X b i = Spline.segment ((ξ b i - a) / g) := by
  unfold seg Spline.segment below Spline.count
  refine congrArg (fun S : Finset (Fin 64) => min 63 (max 1 S.card)) (Finset.filter_congr fun k _ => ?_)
  rw [hX, hx, EReal.coe_lt_coe_iff, lt_div_iff₀ hg]
  constructor <;> intro h <;> linarith

/-- The position of an input on its segment. -/
theorem frac_eq (b : Fin 1024) (i : Fin 256) :
    frac x X b i
      = (((ξ b i - a) / g - ((Spline.segment ((ξ b i - a) / g) : ℕ) : ℝ) + 1 : ℝ) : EReal) := by
  have h1 := one_le_seg x X b i
  unfold frac
  rw [hX, hX, hx, ← EReal.coe_sub, ← EReal.coe_sub, ← seg_eq hg hx hX b i]
  have hd : (a + ((seg x X b i : ℕ) : ℝ) * g) - (a + ((seg x X b i - 1 : ℕ) : ℝ) * g) = g := by
    rw [Nat.cast_sub h1, Nat.cast_one]; ring
  rw [hd, Ideal.div_coe hg.ne', ← EReal.coe_mul, Nat.cast_sub h1, Nat.cast_one]
  refine congrArg (fun e : ℝ => (e : EReal)) ?_
  field_simp
  ring

/-- The weight of a knot. -/
theorem weight_eq (b : Fin 1024) (i : Fin 256) (k : Fin 64) :
    weight x X b i k = ((Spline.weightOnSegment ((ξ b i - a) / g) k.val : ℝ) : EReal) := by
  have hone : ∀ p : Prop, [Decidable p] → (if p then (1 : EReal) else 0) = (((if p then 1 else 0 : ℝ)) : EReal) :=
    fun p _ => by split <;> simp
  unfold weight Spline.weightOnSegment
  rw [frac_eq hg hx hX, seg_eq hg hx hX, hone, hone, ← EReal.coe_one, ← EReal.coe_sub, ← EReal.coe_mul, ← EReal.coe_mul,
    ← EReal.coe_add]

include hY

/-- **The reference's result at real arguments.** -/
theorem reference_real (b : Fin 1024) (n : Fin 256) :
    Cert.ReferenceIdeal.Read.val_main_v40 (F := Ideal) x X Y (ix2 b n)
      = ((∑ i : Fin 256, ∑ k : Fin 64, Spline.weightOnSegment ((ξ b i - a) / g) k.val * y i n k : ℝ) : EReal) := by
  rw [result_apply]
  simp only [KernelValue.coe_sum, EReal.coe_mul, weight_eq hg hx hX, hY]

end Reference

/-! ## The equation -/

open Cert.KernelArrays

variable (m : (ℓ : Loc Cert.KernelIdeal.nD Cert.KernelIdeal.τ Cert.KernelIdeal.sig) → Buf (Elt Ideal) ℓ)

/-- The kernel's position of an input, on evenly spaced knots. -/
theorem position_real (c : Dev Cert.KernelIdeal.nD) {ξ : Fin 1024 → Fin 256 → ℝ} {a g : ℝ} (hg : 0 < g)
    (hx : ∀ b i, inputs m c (ix2 b i) = ((ξ b i : ℝ) : EReal))
    (hX : ∀ k : Fin 64, knots m c (ix1 k) = ((a + (k.val : ℝ) * g : ℝ) : EReal)) (b : Fin 1024) (i : Fin 256) :
    KernelValue.position m c b i = (((ξ b i - a) / g : ℝ) : EReal) := by
  unfold KernelValue.position
  have h0 : knots m c (ix1 0) = ((a : ℝ) : EReal) := (hX 0).trans (congrArg (fun e : ℝ => (e : EReal)) (by simp))
  have h63 : knots m c (ix1 63) = ((a + 63 * g : ℝ) : EReal) :=
    (hX 63).trans (congrArg (fun e : ℝ => (e : EReal)) (by simp))
  rw [hx, h0, h63, ← EReal.coe_sub, ← EReal.coe_sub, Ideal.div_coe (by linarith [hg] : a + 63 * g - a ≠ 0), ← EReal.coe_mul,
    ← EReal.coe_mul]
  refine congrArg (fun e : ℝ => (e : EReal)) ?_
  rw [add_sub_cancel_left]
  field_simp

/-- **Where the precondition holds, the kernel's result is the reference's function of the launch arguments.** -/
theorem result_eq (c : Dev Cert.KernelIdeal.nD)
    (h : Cert.Pre_tame.fn (F := Ideal) (inputs m c) (knots m c) (values m c) = fun _ => 1#1) :
    result m c = Cert.ReferenceIdeal.Read.val_main_v40 (F := Ideal) (inputs m c) (knots m c) (values m c) := by
  obtain ⟨ξ, a, g, y, hg, hx, hX, hY⟩ := Precondition.reals _ _ _ h
  funext q
  obtain ⟨b, n, rfl⟩ : ∃ (b : Fin 1024) (n : Fin 256), q = ix2 b n :=
    ⟨q 0, q 1, funext fun d => match d with | ⟨0, _⟩ => rfl | ⟨1, _⟩ => rfl⟩
  refine (KernelValue.result_real m c _ y (position_real m c hg hx hX) hY b n).trans ?_
  refine Eq.trans ?_ (reference_real hg hx hX hY b n).symm
  simp only [Spline.weight_eq]

end Cert.Equation

end
-- ==== Proof.lean ====
/- The claims about linear interpolation on evenly spaced knots: the kernel, its reading over the extended reals and the
   reference each run to the end, leave their arguments as they were and every semaphore counter at zero; and over the
   extended reals the kernel and the reference compute the same array, wherever the precondition `tame` holds.

   Proof/KernelHats.lean, KernelBlock.lean and KernelArrays.lean say what the kernel computes at a grid point and what it
   reads; KernelValue.lean puts that together for real arguments; RefValue.lean reads the reference; Spline.lean is the
   identity between the two forms of interpolation; Precondition.lean reads the precondition; Equation.lean joins them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tame
public import proofs.«01_k».proof.Proof.Gen.KernelIdeal.Value
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem

/-- The reference runs, keeps its arguments, and has no semaphore to leave at anything but zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- Over the extended reals, from the same arguments within the precondition, both programs end with the same array. -/
theorem same_function : Cert.algebraic_KernelIdeal_ReferenceIdeal_pre_tame := by
  intro m g m' g' hpre hargs
  refine ⟨fun c => Cert.KernelArrays.result m c, ?_, ?_⟩
  · refine (θ_run Cert.KernelIdeal.defs _ _).mono (fun r h c => ⟨?_, (h c).2⟩) (Cert.KernelIdeal.Value.run_blocks m g)
    exact (h c).1.trans (Cert.KernelArrays.final_result m c)
  · refine (θ_run Cert.ReferenceIdeal.defs _ _).mono (fun r h c => ⟨?_, (h c).2⟩)
      (Cert.ReferenceIdeal.Value.run (F := Ideal) m' g')
    rw [(h c).1, Cert.ReferenceIdeal.Read.val_main_v40_eq, (hargs c).1, (hargs c).2.1, (hargs c).2.2]
    exact (Cert.Equation.result_eq m c (hpre c)).symm

/-- All the claims. -/
theorem claim : Cert.Claim :=
  ⟨Cert.Kernel.Gen.facts, Cert.KernelIdeal.Gen.facts, Cert.ReferenceIdeal.Gen.facts, Cert.Pre_tame.Gen.facts,
    fun m g _ => Cert.Kernel.Gen.frame m g, fun m g _ => Cert.KernelIdeal.Gen.frame m g,
    fun m g _ => Cert.KernelIdeal.Gen.frame m g, fun m g _ => reference_frame m g, fun m g _ => reference_frame m g,
    trivial, same_function⟩

end Cert.Proof

end
